-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bf16_range [hPre_bf16_range : Cert.Pre_bf16_range.Facts] (m : (ℓ : Loc Cert.KernelIdeal.nD Cert.KernelIdeal.τ Cert.KernelIdeal.sig) → Buf (Elt Ideal) ℓ) : Prop :=
  ∀ c : Dev Cert.KernelIdeal.nD,
    (Cert.Pre_bf16_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bf16_range [hPre_bf16_range : Cert.Pre_bf16_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bf16_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_bf16_range [hKernelIdeal : Cert.KernelIdeal.Facts] [hPre_bf16_range : Cert.Pre_bf16_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bf16_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_bf16_range [hReferenceIdeal : Cert.ReferenceIdeal.Facts] [hPre_bf16_range : Cert.Pre_bf16_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bf16_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.Statement Cert.KernelIdeal.S8x2x128 Cert.KernelIdeal.S8x1x128
  ∧ IdealRules.bf16_pair.Statement Cert.KernelIdeal.S16x128 Cert.KernelIdeal.S8x128

def algebraic_KernelIdeal_ReferenceIdeal_pre_bf16_range [hKernelIdeal : Cert.KernelIdeal.Facts] [hReferenceIdeal : Cert.ReferenceIdeal.Facts] [hPre_bf16_range : Cert.Pre_bf16_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bf16_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31_0) = v0 c
          ∧ r.2.mem ((c.tc : Thread Cert.ReferenceIdeal.nD Cert.ReferenceIdeal.τ).loc Cert.ReferenceIdeal.main_v31_1) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_bf16_range : Cert.Pre_bf16_range.Facts),
    quiescent_Kernel (hKernel := hKernel)
    ∧ quiescent_KernelIdeal (hKernelIdeal := hKernelIdeal)
    ∧ quiescent_KernelIdeal_pre_bf16_range (hKernelIdeal := hKernelIdeal) (hPre_bf16_range := hPre_bf16_range)
    ∧ quiescent_ReferenceIdeal (hReferenceIdeal := hReferenceIdeal)
    ∧ quiescent_ReferenceIdeal_pre_bf16_range (hReferenceIdeal := hReferenceIdeal) (hPre_bf16_range := hPre_bf16_range)
    ∧ preserves_Kernel_KernelIdeal
    ∧ algebraic_KernelIdeal_ReferenceIdeal_pre_bf16_range (hKernelIdeal := hKernelIdeal) (hReferenceIdeal := hReferenceIdeal) (hPre_bf16_range := hPre_bf16_range)
-- ==== Pre_bf16_range.lean ====
abbrev S8x8x1572864 : Shape := ⟨3, ![8, 8, 1572864]⟩
abbrev S6144x3072 : Shape := ⟨2, ![6144, 3072]⟩
abbrev S3072 : Shape := ⟨1, ![3072]⟩
abbrev S2048x3072 : Shape := ⟨2, ![2048, 3072]⟩
abbrev S_ : Shape := ⟨0, ![]⟩

class Facts : Prop where
  bcast_S_S8x8x1572864 : S_.BroadcastsInDim S8x8x1572864 (![] : Fin 0 → Fin S8x8x1572864.rank)
  reducesTo_S8x8x1572864_S_d0_1_2 : S8x8x1572864.ReducesTo [0, 1, 2] S_
  h_S_ : 0 < S_.numel

variable [Facts]

def fn {F : FTy → Type} [FloatOps F] (main_arg0 : FVec F S8x8x1572864 .bf16) (main_arg1 : FVec F S6144x3072 .fp8e4m3) (main_arg2 : FVec F S3072 .f32) (main_arg3 : FVec F S3072 .f32) (main_arg4 : FVec F S2048x3072 .bf16) : IVec S_ 1 :=
  let main_v0 : FVec F S8x8x1572864 .bf16 := Host.absf main_arg0
  let main_cst : FVec F S_ .bf16 := constant S_ .bf16 0x7F7F#16
  let main_v1 : FVec F S8x8x1572864 .bf16 := broadcastInDim S8x8x1572864 ![] bcast_S_S8x8x1572864 main_cst
  let main_v2 : IVec S8x8x1572864 1 := cmpf .ole main_v0 main_v1
  let main_cst_0 : FVec F S_ .bf16 := constant S_ .bf16 0x7F80#16
  let main_v3 : FVec F S8x8x1572864 .bf16 := broadcastInDim S8x8x1572864 ![] bcast_S_S8x8x1572864 main_cst_0
  let main_v4 : IVec S8x8x1572864 1 := cmpf .oeq main_v0 main_v3
  let main_v5 : IVec S8x8x1572864 1 := ori main_v2 main_v4
  let main_c : IVec S_ 1 := constantI S_ 1 1#1
  let main_v6 : IVec S_ 1 := (fun x v => Host.reduce IntOp.andi x v reducesTo_S8x8x1572864_S_d0_1_2 h_S_) main_v5 main_c
  main_v6
-- ==== Kernel.lean ====
abbrev S8x8x1572864 : Shape := ⟨3, ![8, 8, 1572864]⟩
abbrev S6144x3072 : Shape := ⟨2, ![6144, 3072]⟩
abbrev S3072 : Shape := ⟨1, ![3072]⟩
abbrev S2048x3072 : Shape := ⟨2, ![2048, 3072]⟩
abbrev S8x8x12288x128 : Shape := ⟨4, ![8, 8, 12288, 128]⟩
abbrev S8x12288x8x128 : Shape := ⟨4, ![8, 12288, 8, 128]⟩
abbrev S786432x128 : Shape := ⟨2, ![786432, 128]⟩
abbrev S1x3072 : Shape := ⟨2, ![1, 3072]⟩
abbrev S8x2048x3072 : Shape := ⟨3, ![8, 2048, 3072]⟩
abbrev S8x2048x6144 : Shape := ⟨3, ![8, 2048, 6144]⟩
abbrev S8x1x2048 : Shape := ⟨3, ![8, 1, 2048]⟩
abbrev S12288x128 : Shape := ⟨2, ![12288, 128]⟩
abbrev S256x3072 : Shape := ⟨2, ![256, 3072]⟩
abbrev S1x256x3072 : Shape := ⟨3, ![1, 256, 3072]⟩
abbrev S1x256x6144 : Shape := ⟨3, ![1, 256, 6144]⟩
abbrev S1x1x256 : Shape := ⟨3, ![1, 1, 256]⟩
abbrev S256x128 : Shape := ⟨2, ![256, 128]⟩
abbrev S6144x128 : Shape := ⟨2, ![6144, 128]⟩
abbrev S8x128 : Shape := ⟨2, ![8, 128]⟩
abbrev S6144x2x128 : Shape := ⟨3, ![6144, 2, 128]⟩
abbrev S8x2x128 : Shape := ⟨3, ![8, 2, 128]⟩
abbrev S8x1x128 : Shape := ⟨3, ![8, 1, 128]⟩
abbrev S8 : Shape := ⟨1, ![8]⟩
abbrev S8x1 : Shape := ⟨2, ![8, 1]⟩
abbrev S32x128 : Shape := ⟨2, ![32, 128]⟩
abbrev S1x32x128 : Shape := ⟨3, ![1, 32, 128]⟩
abbrev S128x256 : Shape := ⟨2, ![128, 256]⟩
abbrev S1x256 : Shape := ⟨2, ![1, 256]⟩
abbrev S256 : Shape := ⟨1, ![256]⟩
abbrev S256x6144 : Shape := ⟨2, ![256, 6144]⟩
abbrev S6144x512 : Shape := ⟨2, ![6144, 512]⟩
abbrev S256x512 : Shape := ⟨2, ![256, 512]⟩
abbrev S256x1 : Shape := ⟨2, ![256, 1]⟩
abbrev S1x512 : Shape := ⟨2, ![1, 512]⟩
abbrev S1x256x512 : Shape := ⟨3, ![1, 256, 512]⟩

abbrev nBuf : Space → Nat
  | .hbm => 13
  | .vmem => 14
  | .smem => 0
  | _ => 0

abbrev bufTy : (tb : Table) → Fin (tcTables nBuf tb) → BufTy
  | .hbm, ⟨0, _⟩ => ⟨S8x8x1572864, .bf16⟩
  | .hbm, ⟨1, _⟩ => ⟨S6144x3072, .fp8e4m3⟩
  | .hbm, ⟨2, _⟩ => ⟨S3072, .f32⟩
  | .hbm, ⟨3, _⟩ => ⟨S3072, .f32⟩
  | .hbm, ⟨4, _⟩ => ⟨S2048x3072, .bf16⟩
  | .hbm, ⟨5, _⟩ => ⟨S8x8x12288x128, .bf16⟩
  | .hbm, ⟨6, _⟩ => ⟨S8x12288x8x128, .bf16⟩
  | .hbm, ⟨7, _⟩ => ⟨S786432x128, .bf16⟩
  | .hbm, ⟨8, _⟩ => ⟨S1x3072, .f32⟩
  | .hbm, ⟨9, _⟩ => ⟨S1x3072, .f32⟩
  | .hbm, ⟨10, _⟩ => ⟨S8x2048x3072, .bf16⟩
  | .hbm, ⟨11, _⟩ => ⟨S8x2048x6144, .fp8e4m3⟩
  | .hbm, ⟨12, _⟩ => ⟨S8x1x2048, .f32⟩
  | .local _ .vmem, ⟨0, _⟩ => ⟨S12288x128, .bf16⟩
  | .local _ .vmem, ⟨1, _⟩ => ⟨S12288x128, .bf16⟩
  | .local _ .vmem, ⟨2, _⟩ => ⟨S6144x3072, .fp8e4m3⟩
  | .local _ .vmem, ⟨3, _⟩ => ⟨S1x3072, .f32⟩
  | .local _ .vmem, ⟨4, _⟩ => ⟨S1x3072, .f32⟩
  | .local _ .vmem, ⟨5, _⟩ => ⟨S256x3072, .bf16⟩
  | .local _ .vmem, ⟨6, _⟩ => ⟨S256x3072, .bf16⟩
  | .local _ .vmem, ⟨7, _⟩ => ⟨S1x256x3072, .bf16⟩
  | .local _ .vmem, ⟨8, _⟩ => ⟨S1x256x3072, .bf16⟩
  | .local _ .vmem, ⟨9, _⟩ => ⟨S1x256x6144, .fp8e4m3⟩
  | .local _ .vmem, ⟨10, _⟩ => ⟨S1x256x6144, .fp8e4m3⟩
  | .local _ .vmem, ⟨11, _⟩ => ⟨S1x1x256, .f32⟩
  | .local _ .vmem, ⟨12, _⟩ => ⟨S1x1x256, .f32⟩
  | .local _ .vmem, ⟨13, _⟩ => ⟨S256x128, .f32⟩
  | _, _ => ⟨S8x8x1572864, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [BitOps F]

abbrev grid0 : Pipeline.Grid := ⟨2, ![8, 8], ![false, false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_off1 (k0_t1 : Fin k0_t1_loop.trips) (c0_i32_103 : BitVec 32) (c0_i32_104 : BitVec 32) : Fin 3 → Nat :=
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v155 : BitVec 32 := Scalar.addi v154 c0_i32_103
  let c24_i32 : BitVec 32 := 24#32
  let v156 : BitVec 32 := Scalar.muli v155 c24_i32
  let v157 : BitVec 32 := Scalar.addi v156 c0_i32_104
  let v159 : Index := Scalar.indexCast v157
  let c0_105 : Index := 0#32
  ![v159.toNat, 0, 0]
def k0_off2 (k0_t1 : Fin k0_t1_loop.trips) (c0_i32_210 : BitVec 32) : Fin 2 → Nat :=
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v618 : BitVec 32 := Scalar.addi v154 c0_i32_210
  let v619 : Index := Scalar.indexCast v618
  let c0_211 : Index := 0#32
  ![v619.toNat, 0]
def k0_off3 (k0_t1 : Fin k0_t1_loop.trips) (c0_i32_623 : BitVec 32) (c0_i32_625 : BitVec 32) (c0_i32_626 : BitVec 32) : Fin 3 → Nat :=
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v2027 : BitVec 32 := Scalar.addi v154 c0_i32_623
  let c24_i32_624 : BitVec 32 := 24#32
  let v2028 : BitVec 32 := Scalar.muli v2027 c24_i32_624
  let v2029 : BitVec 32 := Scalar.addi v2028 c0_i32_625
  let v2030 : BitVec 32 := Scalar.addi v2029 c0_i32_626
  let v2032 : Index := Scalar.indexCast v2030
  let c0_627 : Index := 0#32
  ![v2032.toNat, 0, 0]
def k0_off4 (k0_t1 : Fin k0_t1_loop.trips) : Fin 3 → Nat :=
  let c0_667 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v2125 : Index := Scalar.indexCast v154
  let c0_668 : Index := 0#32
  ![0, v2125.toNat, 0]
def k0_off5 (k0_t1 : Fin k0_t1_loop.trips) : Fin 3 → Nat :=
  let c0_669 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v2131 : Index := Scalar.indexCast v154
  let c768 : Index := 768#32
  ![0, v2131.toNat, 768]
def k0_off6 (k0_t1 : Fin k0_t1_loop.trips) : Fin 3 → Nat :=
  let c0_714 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v2233 : Index := Scalar.indexCast v154
  let c1536_715 : Index := 1536#32
  ![0, v2233.toNat, 1536]
def k0_off7 (k0_t1 : Fin k0_t1_loop.trips) : Fin 3 → Nat :=
  let c0_716 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v2239 : Index := Scalar.indexCast v154
  let c2304 : Index := 2304#32
  ![0, v2239.toNat, 2304]
def k0_off8 (k0_t1 : Fin k0_t1_loop.trips) : Fin 3 → Nat :=
  let c0_761 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v2341 : Index := Scalar.indexCast v154
  let c3072 : Index := 3072#32
  ![0, v2341.toNat, 3072]
def k0_off9 (k0_t1 : Fin k0_t1_loop.trips) : Fin 3 → Nat :=
  let c0_762 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v2347 : Index := Scalar.indexCast v154
  let c3840 : Index := 3840#32
  ![0, v2347.toNat, 3840]
def k0_off10 (k0_t1 : Fin k0_t1_loop.trips) : Fin 3 → Nat :=
  let c0_807 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v2449 : Index := Scalar.indexCast v154
  let c4608 : Index := 4608#32
  ![0, v2449.toNat, 4608]
def k0_off11 (k0_t1 : Fin k0_t1_loop.trips) : Fin 3 → Nat :=
  let c0_808 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v2455 : Index := Scalar.indexCast v154
  let c5376 : Index := 5376#32
  ![0, v2455.toNat, 5376]
def k0_off12 (k0_t1 : Fin k0_t1_loop.trips) : Fin 3 → Nat :=
  let c0_853 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v2557 : Index := Scalar.indexCast v154
  let c128 : Index := 128#32
  ![0, v2557.toNat, 128]
def k0_off13 (k0_t1 : Fin k0_t1_loop.trips) : Fin 3 → Nat :=
  let c0_854 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v2563 : Index := Scalar.indexCast v154
  let c896 : Index := 896#32
  ![0, v2563.toNat, 896]
def k0_off14 (k0_t1 : Fin k0_t1_loop.trips) : Fin 3 → Nat :=
  let c0_899 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v2665 : Index := Scalar.indexCast v154
  let c1664 : Index := 1664#32
  ![0, v2665.toNat, 1664]
def k0_off15 (k0_t1 : Fin k0_t1_loop.trips) : Fin 3 → Nat :=
  let c0_900 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v2671 : Index := Scalar.indexCast v154
  let c2432 : Index := 2432#32
  ![0, v2671.toNat, 2432]
def k0_off16 (k0_t1 : Fin k0_t1_loop.trips) : Fin 3 → Nat :=
  let c0_945 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v2773 : Index := Scalar.indexCast v154
  let c3200 : Index := 3200#32
  ![0, v2773.toNat, 3200]
def k0_off17 (k0_t1 : Fin k0_t1_loop.trips) : Fin 3 → Nat :=
  let c0_946 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v2779 : Index := Scalar.indexCast v154
  let c3968 : Index := 3968#32
  ![0, v2779.toNat, 3968]
def k0_off18 (k0_t1 : Fin k0_t1_loop.trips) : Fin 3 → Nat :=
  let c0_991 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v2881 : Index := Scalar.indexCast v154
  let c4736 : Index := 4736#32
  ![0, v2881.toNat, 4736]
def k0_off19 (k0_t1 : Fin k0_t1_loop.trips) : Fin 3 → Nat :=
  let c0_992 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v2887 : Index := Scalar.indexCast v154
  let c5504 : Index := 5504#32
  ![0, v2887.toNat, 5504]
def k0_off20 (k0_t1 : Fin k0_t1_loop.trips) : Fin 3 → Nat :=
  let c0_1037 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v2989 : Index := Scalar.indexCast v154
  let c256 : Index := 256#32
  ![0, v2989.toNat, 256]
def k0_off21 (k0_t1 : Fin k0_t1_loop.trips) : Fin 3 → Nat :=
  let c0_1038 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v2995 : Index := Scalar.indexCast v154
  let c1024_1039 : Index := 1024#32
  ![0, v2995.toNat, 1024]
def k0_off22 (k0_t1 : Fin k0_t1_loop.trips) : Fin 3 → Nat :=
  let c0_1084 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v3097 : Index := Scalar.indexCast v154
  let c1792 : Index := 1792#32
  ![0, v3097.toNat, 1792]
def k0_off23 (k0_t1 : Fin k0_t1_loop.trips) : Fin 3 → Nat :=
  let c0_1085 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v3103 : Index := Scalar.indexCast v154
  let c2560_1086 : Index := 2560#32
  ![0, v3103.toNat, 2560]
def k0_off24 (k0_t1 : Fin k0_t1_loop.trips) : Fin 3 → Nat :=
  let c0_1131 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v3205 : Index := Scalar.indexCast v154
  let c3328 : Index := 3328#32
  ![0, v3205.toNat, 3328]
def k0_off25 (k0_t1 : Fin k0_t1_loop.trips) : Fin 3 → Nat :=
  let c0_1132 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v3211 : Index := Scalar.indexCast v154
  let c4096 : Index := 4096#32
  ![0, v3211.toNat, 4096]
def k0_off26 (k0_t1 : Fin k0_t1_loop.trips) : Fin 3 → Nat :=
  let c0_1177 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v3313 : Index := Scalar.indexCast v154
  let c4864 : Index := 4864#32
  ![0, v3313.toNat, 4864]
def k0_off27 (k0_t1 : Fin k0_t1_loop.trips) : Fin 3 → Nat :=
  let c0_1178 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v3319 : Index := Scalar.indexCast v154
  let c5632 : Index := 5632#32
  ![0, v3319.toNat, 5632]
def k0_off28 (k0_t1 : Fin k0_t1_loop.trips) : Fin 3 → Nat :=
  let c0_1223 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v3421 : Index := Scalar.indexCast v154
  let c384 : Index := 384#32
  ![0, v3421.toNat, 384]
def k0_off29 (k0_t1 : Fin k0_t1_loop.trips) : Fin 3 → Nat :=
  let c0_1224 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v3427 : Index := Scalar.indexCast v154
  let c1152 : Index := 1152#32
  ![0, v3427.toNat, 1152]
def k0_off30 (k0_t1 : Fin k0_t1_loop.trips) : Fin 3 → Nat :=
  let c0_1269 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v3529 : Index := Scalar.indexCast v154
  let c1920 : Index := 1920#32
  ![0, v3529.toNat, 1920]
def k0_off31 (k0_t1 : Fin k0_t1_loop.trips) : Fin 3 → Nat :=
  let c0_1270 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v3535 : Index := Scalar.indexCast v154
  let c2688 : Index := 2688#32
  ![0, v3535.toNat, 2688]
def k0_off32 (k0_t1 : Fin k0_t1_loop.trips) : Fin 3 → Nat :=
  let c0_1315 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v3637 : Index := Scalar.indexCast v154
  let c3456 : Index := 3456#32
  ![0, v3637.toNat, 3456]
def k0_off33 (k0_t1 : Fin k0_t1_loop.trips) : Fin 3 → Nat :=
  let c0_1316 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v3643 : Index := Scalar.indexCast v154
  let c4224 : Index := 4224#32
  ![0, v3643.toNat, 4224]
def k0_off34 (k0_t1 : Fin k0_t1_loop.trips) : Fin 3 → Nat :=
  let c0_1361 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v3745 : Index := Scalar.indexCast v154
  let c4992 : Index := 4992#32
  ![0, v3745.toNat, 4992]
def k0_off35 (k0_t1 : Fin k0_t1_loop.trips) : Fin 3 → Nat :=
  let c0_1362 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v3751 : Index := Scalar.indexCast v154
  let c5760 : Index := 5760#32
  ![0, v3751.toNat, 5760]
def k0_off36 (k0_t1 : Fin k0_t1_loop.trips) : Fin 3 → Nat :=
  let c0_1407 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v3853 : Index := Scalar.indexCast v154
  let c512_1408 : Index := 512#32
  ![0, v3853.toNat, 512]
def k0_off37 (k0_t1 : Fin k0_t1_loop.trips) : Fin 3 → Nat :=
  let c0_1409 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v3859 : Index := Scalar.indexCast v154
  let c1280 : Index := 1280#32
  ![0, v3859.toNat, 1280]
def k0_off38 (k0_t1 : Fin k0_t1_loop.trips) : Fin 3 → Nat :=
  let c0_1454 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v3961 : Index := Scalar.indexCast v154
  let c2048_1455 : Index := 2048#32
  ![0, v3961.toNat, 2048]
def k0_off39 (k0_t1 : Fin k0_t1_loop.trips) : Fin 3 → Nat :=
  let c0_1456 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v3967 : Index := Scalar.indexCast v154
  let c2816 : Index := 2816#32
  ![0, v3967.toNat, 2816]
def k0_off40 (k0_t1 : Fin k0_t1_loop.trips) : Fin 3 → Nat :=
  let c0_1501 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v4069 : Index := Scalar.indexCast v154
  let c3584 : Index := 3584#32
  ![0, v4069.toNat, 3584]
def k0_off41 (k0_t1 : Fin k0_t1_loop.trips) : Fin 3 → Nat :=
  let c0_1502 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v4075 : Index := Scalar.indexCast v154
  let c4352 : Index := 4352#32
  ![0, v4075.toNat, 4352]
def k0_off42 (k0_t1 : Fin k0_t1_loop.trips) : Fin 3 → Nat :=
  let c0_1547 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v4177 : Index := Scalar.indexCast v154
  let c5120 : Index := 5120#32
  ![0, v4177.toNat, 5120]
def k0_off43 (k0_t1 : Fin k0_t1_loop.trips) : Fin 3 → Nat :=
  let c0_1548 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v4183 : Index := Scalar.indexCast v154
  let c5888 : Index := 5888#32
  ![0, v4183.toNat, 5888]
def k0_off44 (k0_t1 : Fin k0_t1_loop.trips) : Fin 3 → Nat :=
  let c0_1593 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v4285 : Index := Scalar.indexCast v154
  let c640 : Index := 640#32
  ![0, v4285.toNat, 640]
def k0_off45 (k0_t1 : Fin k0_t1_loop.trips) : Fin 3 → Nat :=
  let c0_1594 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v4291 : Index := Scalar.indexCast v154
  let c1408 : Index := 1408#32
  ![0, v4291.toNat, 1408]
def k0_off46 (k0_t1 : Fin k0_t1_loop.trips) : Fin 3 → Nat :=
  let c0_1639 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v4393 : Index := Scalar.indexCast v154
  let c2176 : Index := 2176#32
  ![0, v4393.toNat, 2176]
def k0_off47 (k0_t1 : Fin k0_t1_loop.trips) : Fin 3 → Nat :=
  let c0_1640 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v4399 : Index := Scalar.indexCast v154
  let c2944 : Index := 2944#32
  ![0, v4399.toNat, 2944]
def k0_off48 (k0_t1 : Fin k0_t1_loop.trips) : Fin 3 → Nat :=
  let c0_1685 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v4501 : Index := Scalar.indexCast v154
  let c3712 : Index := 3712#32
  ![0, v4501.toNat, 3712]
def k0_off49 (k0_t1 : Fin k0_t1_loop.trips) : Fin 3 → Nat :=
  let c0_1686 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v4507 : Index := Scalar.indexCast v154
  let c4480 : Index := 4480#32
  ![0, v4507.toNat, 4480]
def k0_off50 (k0_t1 : Fin k0_t1_loop.trips) : Fin 3 → Nat :=
  let c0_1731 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v4609 : Index := Scalar.indexCast v154
  let c5248 : Index := 5248#32
  ![0, v4609.toNat, 5248]
def k0_off51 (k0_t1 : Fin k0_t1_loop.trips) : Fin 3 → Nat :=
  let c0_1732 : Index := 0#32
  let c0_i32_102 : BitVec 32 := 0#32
  let c0_i32 : BitVec 32 := 0#32
  let c1_i32 : BitVec 32 := 1#32
  let arg11 : BitVec 32 := Scf.iv c0_i32 c1_i32 k0_t1
  let c1_i32_101 : BitVec 32 := 1#32
  let v152 : BitVec 32 := Scalar.muli arg11 c1_i32_101
  let v153 : BitVec 32 := Scalar.addi c0_i32_102 v152
  let c32_i32 : BitVec 32 := 32#32
  let v154 : BitVec 32 := Scalar.muli v153 c32_i32
  let v4615 : Index := Scalar.indexCast v154
  let c6016 : Index := 6016#32
  ![0, v4615.toNat, 6016]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let v1 : BitVec 32 := Scalar.addi v0 arg0
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S12288x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S6144x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x6144 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
abbrev S16x128 : Shape := ⟨2, ![16, 128]⟩
variable {F : FTy → Type} [FloatOps F]
-- ==== ReferenceIdeal.lean ====
abbrev S8x8x1572864 : Shape := ⟨3, ![8, 8, 1572864]⟩
abbrev S6144x3072 : Shape := ⟨2, ![6144, 3072]⟩
abbrev S3072 : Shape := ⟨1, ![3072]⟩
abbrev S2048x3072 : Shape := ⟨2, ![2048, 3072]⟩
abbrev S8x8x2048x768 : Shape := ⟨4, ![8, 8, 2048, 768]⟩
abbrev S8x2048x8x768 : Shape := ⟨4, ![8, 2048, 8, 768]⟩
abbrev S8x2048x6144 : Shape := ⟨3, ![8, 2048, 6144]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S8x2048x3072 : Shape := ⟨3, ![8, 2048, 3072]⟩
abbrev S16384x6144 : Shape := ⟨2, ![16384, 6144]⟩
abbrev S16384x3072 : Shape := ⟨2, ![16384, 3072]⟩
abbrev S1x1x3072 : Shape := ⟨3, ![1, 1, 3072]⟩
abbrev S1x2048x3072 : Shape := ⟨3, ![1, 2048, 3072]⟩

abbrev nBuf : Space → Nat
  | .hbm => 56
  | .vmem => 8
  | .smem => 0
  | _ => 0

abbrev bufTy : (tb : Table) → Fin (tcTables nBuf tb) → BufTy
  | .hbm, ⟨0, _⟩ => ⟨S8x8x1572864, .bf16⟩
  | .hbm, ⟨1, _⟩ => ⟨S6144x3072, .fp8e4m3⟩
  | .hbm, ⟨2, _⟩ => ⟨S3072, .f32⟩
  | .hbm, ⟨3, _⟩ => ⟨S3072, .f32⟩
  | .hbm, ⟨4, _⟩ => ⟨S2048x3072, .bf16⟩
  | .hbm, ⟨5, _⟩ => ⟨S8x8x2048x768, .bf16⟩
  | .hbm, ⟨6, _⟩ => ⟨S8x2048x8x768, .bf16⟩
  | .hbm, ⟨7, _⟩ => ⟨S8x2048x6144, .bf16⟩
  | .hbm, ⟨8, _⟩ => ⟨S8x2048x6144, .f32⟩
  | .hbm, ⟨9, _⟩ => ⟨S8x2048x6144, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S_, .f32⟩
  | .hbm, ⟨22, _⟩ => ⟨S8x2048x1, .f32⟩
  | .hbm, ⟨23, _⟩ => ⟨S8x2048x1, .i1⟩
  | .hbm, ⟨24, _⟩ => ⟨S_, .f32⟩
  | .hbm, ⟨25, _⟩ => ⟨S8x2048x1, .f32⟩
  | .hbm, ⟨26, _⟩ => ⟨S8x2048x1, .i1⟩
  | .hbm, ⟨27, _⟩ => ⟨S8x2048x1, .i1⟩
  | .hbm, ⟨28, _⟩ => ⟨S8x2048x1, .f32⟩
  | .hbm, ⟨29, _⟩ => ⟨S_, .f32⟩
  | .hbm, ⟨30, _⟩ => ⟨S8x2048x1, .f32⟩
  | .hbm, ⟨31, _⟩ => ⟨S8x2048x1, .f32⟩
  | .hbm, ⟨32, _⟩ => ⟨S_, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S_, .f32⟩
  | .hbm, ⟨37, _⟩ => ⟨S8x2048x1, .f32⟩
  | .hbm, ⟨38, _⟩ => ⟨S8x2048x1, .f32⟩
  | .hbm, ⟨39, _⟩ => ⟨S8x2048x1, .f32⟩
  | .hbm, ⟨40, _⟩ => ⟨S_, .f32⟩
  | .hbm, ⟨41, _⟩ => ⟨S8x2048x1, .f32⟩
  | .hbm, ⟨42, _⟩ => ⟨S8x2048x1, .f32⟩
  | .hbm, ⟨43, _⟩ => ⟨S8x2048x6144, .f32⟩
  | .hbm, ⟨44, _⟩ => ⟨S8x2048x6144, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8x2048x6144, .f32⟩
  | .hbm, ⟨49, _⟩ => ⟨S8x2048x6144, .f32⟩
  | .hbm, ⟨50, _⟩ => ⟨S_, .f32⟩
  | .hbm, ⟨51, _⟩ => ⟨S8x2048x6144, .f32⟩
  | .hbm, ⟨52, _⟩ => ⟨S8x2048x6144, .f32⟩
  | .hbm, ⟨53, _⟩ => ⟨S8x1x2048, .f32⟩
  | .hbm, ⟨54, _⟩ => ⟨S8x2048x3072, .bf16⟩
  | .hbm, ⟨55, _⟩ => ⟨S8x2048x6144, .fp8e4m3⟩
  | .local _ .vmem, ⟨0, _⟩ => ⟨S8x2048x6144, .f32⟩
  | .local _ .vmem, ⟨1, _⟩ => ⟨S8x2048x1, .f32⟩
  | .local _ .vmem, ⟨2, _⟩ => ⟨S6144x3072, .fp8e4m3⟩
  | .local _ .vmem, ⟨3, _⟩ => ⟨S3072, .f32⟩
  | .local _ .vmem, ⟨4, _⟩ => ⟨S3072, .f32⟩
  | .local _ .vmem, ⟨5, _⟩ => ⟨S2048x3072, .bf16⟩
  | .local _ .vmem, ⟨6, _⟩ => ⟨S8x2048x3072, .bf16⟩
  | .local _ .vmem, ⟨7, _⟩ => ⟨S8x2048x6144, .fp8e4m3⟩
  | _, _ => ⟨S8x8x1572864, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_call0_v0 : Ref sig .tc := ⟨.hbm, 33, rfl⟩
abbrev main_call0_v1 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_cst_9 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v29 : Ref sig .tc := ⟨.hbm, 52, rfl⟩
abbrev main_v30 : Ref sig .tc := ⟨.hbm, 53, rfl⟩
abbrev main_v31_0 : Ref sig .tc := ⟨.hbm, 54, rfl⟩
abbrev main_v31_1 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x2048x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x2048x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x2048x6144 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Trip.lean ====
module

public import proofs.«01_k».proof.Proof.Gen.Kernel.Skeleton
public import proofs.«01_k».proof.Proof.Gen.Kernel.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄G" => MT nD τ sig Unit (Elt F) ℕ (UR sig nD τ) ℕ

/-- One trip's resources: the signal block at its contents, the codes' block and the row scales at any. -/
abbrev Trip (c : Dev nD) (arg2 : Memref sig .tc .vmem S12288x128 .bf16) (arg8 : Memref sig .tc .vmem S1x256x6144 .fp8e4m3) (arg10 : Memref sig .tc .vmem S256x128 .f32) (X : BufTy.Contents (Elt F) arg2.view.ty) (f8 : BufTy.Contents (Elt F) arg8.view.ty) (f10 : BufTy.Contents (Elt F) arg10.view.ty) : sProp 𝕄G :=
  iprop((arg2.view.loc (c : Thread nD τ) ↦[arg2.view.set]{fullShare} X) ∗ (arg8.view.loc (c : Thread nD τ) ↦[arg8.view.set]{fullShare} f8) ∗ (arg10.view.loc (c : Thread nD τ) ↦[arg10.view.set]{fullShare} f10))

set_option backward.proofsInPublic true in
set_option maxHeartbeats 4000000 in
/-- One trip of the loop over the groups of 32 rows, run at a symbolic trip: the pieces it writes. -/
@[irreducible] def trip (𝒱 : Variants) (c : Dev nD) (bd : Option 𝒱.V) (i : grid0.Coords) (arg2 : Memref sig .tc .vmem S12288x128 .bf16) (harg2 : arg2.IsWhole) (arg3 : Memref sig .tc .vmem S6144x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S256x3072 .bf16) (harg6 : arg6.IsWhole) (arg7 : Memref sig .tc .vmem S1x256x3072 .bf16) (harg7 : arg7.IsWhole) (arg8 : Memref sig .tc .vmem S1x256x6144 .fp8e4m3) (harg8 : arg8.IsWhole) (arg9 : Memref sig .tc .vmem S1x1x256 .f32) (harg9 : arg9.IsWhole) (arg10 : Memref sig .tc .vmem S256x128 .f32) (harg10 : arg10.IsWhole) (X : BufTy.Contents (Elt F) arg2.view.ty) (k : Fin k0_t1_loop.trips) :
    Σ' (L8 : List (View.Piece (Elt F) S1x256x6144 .fp8e4m3)), { L10 : List (View.Piece (Elt F) S256x128 .f32) // ∀ (E : Set ℕ) (f8 : BufTy.Contents (Elt F) arg8.view.ty) (f10 : BufTy.Contents (Elt F) arg10.view.ty),
      Trip (F := F) c arg2 arg8 arg10 X f8 f10
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 k PUnit.unit)
          (fun _ => Trip (F := F) c arg2 arg8 arg10 X (arg8.view.writes (Elt F) f8 L8) (arg10.view.writes (Elt F) f10 L10)) } := by
  have hk : k.val < 8 := Nat.lt_of_lt_of_le k.isLt k0_t1_abs.2.1
  refine ⟨?_, ?_, fun E f8 f10 => ?run⟩
  case run =>
    unfold k0_t1_body
    iintro ⟨HR2, HW8, HW10⟩
    sl_exec_parts
    sl_step
    sl_close

end Cert.Kernel.Hand

end
-- ==== Proof.Loop.lean ====
module

public import proofs.«01_k».proof.Proof.Trip
public import Idealize.ShloMosaic.Lib.Pipeline.FrameBody
public import Idealize.ShloMosaic.Lib.Ring
public import Idealize.ShloMosaic.Lib.Exec
public import Idealize.ShloMosaic.Lib.Tactic
public import Idealize.ShloMosaic.Lib.WordCmp
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- The trip's piece lists (plain projections of `trip_…`, for the recursion below to cite without
   its proof). -/
abbrev tripL_k0_t1 (𝒱 : Variants) (c : Dev nD) (bd : Option 𝒱.V) (i : grid0.Coords) (arg2 : Memref sig .tc .vmem S12288x128 .bf16) (harg2 : arg2.IsWhole) (arg3 : Memref sig .tc .vmem S6144x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S256x3072 .bf16) (harg6 : arg6.IsWhole) (arg7 : Memref sig .tc .vmem S1x256x3072 .bf16) (harg7 : arg7.IsWhole) (arg8 : Memref sig .tc .vmem S1x256x6144 .fp8e4m3) (harg8 : arg8.IsWhole) (arg9 : Memref sig .tc .vmem S1x1x256 .f32) (harg9 : arg9.IsWhole) (arg10 : Memref sig .tc .vmem S256x128 .f32) (harg10 : arg10.IsWhole) (X_arg2 : BufTy.Contents (Elt F) arg2.view.ty) (k : Fin k0_t1_loop.trips) : List (View.Piece (Elt F) S1x256x6144 .fp8e4m3) × List (View.Piece (Elt F) S256x128 .f32) :=
  ((trip (F := F) 𝒱 c bd i arg2 harg2 arg3 harg3 arg4 harg4 arg5 harg5 arg6 harg6 arg7 harg7 arg8 harg8 arg9 harg9 arg10 harg10 X_arg2 k).1, (trip (F := F) 𝒱 c bd i arg2 harg2 arg3 harg3 arg4 harg4 arg5 harg5 arg6 harg6 arg7 harg7 arg8 harg8 arg9 harg9 arg10 harg10 X_arg2 k).2.1)

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg2 : Memref sig .tc .vmem S12288x128 .bf16) (harg2 : arg2.IsWhole) (arg3 : Memref sig .tc .vmem S6144x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S256x3072 .bf16) (harg6 : arg6.IsWhole) (arg7 : Memref sig .tc .vmem S1x256x3072 .bf16) (harg7 : arg7.IsWhole) (arg8 : Memref sig .tc .vmem S1x256x6144 .fp8e4m3) (harg8 : arg8.IsWhole) (arg9 : Memref sig .tc .vmem S1x1x256 .f32) (harg9 : arg9.IsWhole) (arg10 : Memref sig .tc .vmem S256x128 .f32) (harg10 : arg10.IsWhole) (X_arg2 : BufTy.Contents (Elt F) arg2.view.ty) (k : ℕ) (prev : List (View.Piece (Elt F) S1x256x6144 .fp8e4m3) × List (View.Piece (Elt F) S256x128 .f32)) : List (View.Piece (Elt F) S1x256x6144 .fp8e4m3) × List (View.Piece (Elt F) S256x128 .f32) :=
  if h : k < k0_t1_loop.trips then
    ((tripL_k0_t1 (F := F) 𝒱 c bd i arg2 harg2 arg3 harg3 arg4 harg4 arg5 harg5 arg6 harg6 arg7 harg7 arg8 harg8 arg9 harg9 arg10 harg10 X_arg2 ⟨k, h⟩).1 ++ prev.1, (tripL_k0_t1 (F := F) 𝒱 c bd i arg2 harg2 arg3 harg3 arg4 harg4 arg5 harg5 arg6 harg6 arg7 harg7 arg8 harg8 arg9 harg9 arg10 harg10 X_arg2 ⟨k, h⟩).2 ++ prev.2)
  else prev

/-- The pieces of the trips before `k` (last first), per written memref. -/
def pb_k0_t1 (𝒱 : Variants) (c : Dev nD) (bd : Option 𝒱.V) (i : grid0.Coords) (arg2 : Memref sig .tc .vmem S12288x128 .bf16) (harg2 : arg2.IsWhole) (arg3 : Memref sig .tc .vmem S6144x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S256x3072 .bf16) (harg6 : arg6.IsWhole) (arg7 : Memref sig .tc .vmem S1x256x3072 .bf16) (harg7 : arg7.IsWhole) (arg8 : Memref sig .tc .vmem S1x256x6144 .fp8e4m3) (harg8 : arg8.IsWhole) (arg9 : Memref sig .tc .vmem S1x1x256 .f32) (harg9 : arg9.IsWhole) (arg10 : Memref sig .tc .vmem S256x128 .f32) (harg10 : arg10.IsWhole) (X_arg2 : BufTy.Contents (Elt F) arg2.view.ty) : ℕ → List (View.Piece (Elt F) S1x256x6144 .fp8e4m3) × List (View.Piece (Elt F) S256x128 .f32)
  | 0 => ([], [])
  | k + 1 => pb_k0_t1Step 𝒱 c bd i arg2 harg2 arg3 harg3 arg4 harg4 arg5 harg5 arg6 harg6 arg7 harg7 arg8 harg8 arg9 harg9 arg10 harg10 X_arg2 k (pb_k0_t1 𝒱 c bd i arg2 harg2 arg3 harg3 arg4 harg4 arg5 harg5 arg6 harg6 arg7 harg7 arg8 harg8 arg9 harg9 arg10 harg10 X_arg2 k)

theorem pb_k0_t1_succ (𝒱 : Variants) (c : Dev nD) (bd : Option 𝒱.V) (i : grid0.Coords) (arg2 : Memref sig .tc .vmem S12288x128 .bf16) (harg2 : arg2.IsWhole) (arg3 : Memref sig .tc .vmem S6144x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S256x3072 .bf16) (harg6 : arg6.IsWhole) (arg7 : Memref sig .tc .vmem S1x256x3072 .bf16) (harg7 : arg7.IsWhole) (arg8 : Memref sig .tc .vmem S1x256x6144 .fp8e4m3) (harg8 : arg8.IsWhole) (arg9 : Memref sig .tc .vmem S1x1x256 .f32) (harg9 : arg9.IsWhole) (arg10 : Memref sig .tc .vmem S256x128 .f32) (harg10 : arg10.IsWhole) (X_arg2 : BufTy.Contents (Elt F) arg2.view.ty) (k : Fin k0_t1_loop.trips) :
    pb_k0_t1 (F := F) 𝒱 c bd i arg2 harg2 arg3 harg3 arg4 harg4 arg5 harg5 arg6 harg6 arg7 harg7 arg8 harg8 arg9 harg9 arg10 harg10 X_arg2 (k.val + 1)
      = ((tripL_k0_t1 (F := F) 𝒱 c bd i arg2 harg2 arg3 harg3 arg4 harg4 arg5 harg5 arg6 harg6 arg7 harg7 arg8 harg8 arg9 harg9 arg10 harg10 X_arg2 k).1 ++ (pb_k0_t1 (F := F) 𝒱 c bd i arg2 harg2 arg3 harg3 arg4 harg4 arg5 harg5 arg6 harg6 arg7 harg7 arg8 harg8 arg9 harg9 arg10 harg10 X_arg2 k.val).1, (tripL_k0_t1 (F := F) 𝒱 c bd i arg2 harg2 arg3 harg3 arg4 harg4 arg5 harg5 arg6 harg6 arg7 harg7 arg8 harg8 arg9 harg9 arg10 harg10 X_arg2 k).2 ++ (pb_k0_t1 (F := F) 𝒱 c bd i arg2 harg2 arg3 harg3 arg4 harg4 arg5 harg5 arg6 harg6 arg7 harg7 arg8 harg8 arg9 harg9 arg10 harg10 X_arg2 k.val).2) := by
  rw [pb_k0_t1.eq_2]; unfold pb_k0_t1Step; exact dif_pos k.isLt

/-- THE INVARIANT before trip `k`: arg2 read at `X_·`; arg8, arg10 holding the pieces of the trips
   before `k` written over the contents at loop entry `G_·` (stated `∃ f, … ∗ ⌜f = …⌝`, so that a
   hypothesis of any contents matches and the equation is what is proved). -/
abbrev inv_k0_t1 (𝒱 : Variants) (c : Dev nD) (bd : Option 𝒱.V) (i : grid0.Coords) (arg2 : Memref sig .tc .vmem S12288x128 .bf16) (harg2 : arg2.IsWhole) (arg3 : Memref sig .tc .vmem S6144x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S256x3072 .bf16) (harg6 : arg6.IsWhole) (arg7 : Memref sig .tc .vmem S1x256x3072 .bf16) (harg7 : arg7.IsWhole) (arg8 : Memref sig .tc .vmem S1x256x6144 .fp8e4m3) (harg8 : arg8.IsWhole) (arg9 : Memref sig .tc .vmem S1x1x256 .f32) (harg9 : arg9.IsWhole) (arg10 : Memref sig .tc .vmem S256x128 .f32) (harg10 : arg10.IsWhole) (X_arg2 : BufTy.Contents (Elt F) arg2.view.ty) (G_arg8 : BufTy.Contents (Elt F) arg8.view.ty) (G_arg10 : BufTy.Contents (Elt F) arg10.view.ty) (k : ℕ) (_u : PUnit) : sProp 𝕄 :=
  iprop((arg2.view.loc (c : Thread nD τ) ↦[arg2.view.set]{fullShare} X_arg2) ∗ (∃ f, (arg8.view.loc (c : Thread nD τ) ↦[arg8.view.set]{fullShare} f) ∗ ⌜f = arg8.view.writes (Elt F) G_arg8 (pb_k0_t1 (F := F) 𝒱 c bd i arg2 harg2 arg3 harg3 arg4 harg4 arg5 harg5 arg6 harg6 arg7 harg7 arg8 harg8 arg9 harg9 arg10 harg10 X_arg2 k).1⌝) ∗ (∃ f, (arg10.view.loc (c : Thread nD τ) ↦[arg10.view.set]{fullShare} f) ∗ ⌜f = arg10.view.writes (Elt F) G_arg10 (pb_k0_t1 (F := F) 𝒱 c bd i arg2 harg2 arg3 harg3 arg4 harg4 arg5 harg5 arg6 harg6 arg7 harg7 arg8 harg8 arg9 harg9 arg10 harg10 X_arg2 k).2⌝))

set_option warn.classDefReducibility false in
/-- THE LOOP BY ITS INVARIANT — generated (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg2 : Memref sig .tc .vmem S12288x128 .bf16) (harg2 : arg2.IsWhole) (arg3 : Memref sig .tc .vmem S6144x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S256x3072 .bf16) (harg6 : arg6.IsWhole) (arg7 : Memref sig .tc .vmem S1x256x3072 .bf16) (harg7 : arg7.IsWhole) (arg8 : Memref sig .tc .vmem S1x256x6144 .fp8e4m3) (harg8 : arg8.IsWhole) (arg9 : Memref sig .tc .vmem S1x1x256 .f32) (harg9 : arg9.IsWhole) (arg10 : Memref sig .tc .vmem S256x128 .f32) (harg10 : arg10.IsWhole) (X_arg2 : BufTy.Contents (Elt F) arg2.view.ty) (G_arg8 : BufTy.Contents (Elt F) arg8.view.ty) (G_arg10 : BufTy.Contents (Elt F) arg10.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 where
  inv := inv_k0_t1 (F := F) 𝒱 c bd i arg2 harg2 arg3 harg3 arg4 harg4 arg5 harg5 arg6 harg6 arg7 harg7 arg8 harg8 arg9 harg9 arg10 harg10 X_arg2 G_arg8 G_arg10
  step k acc := by
    iintro ⟨HR_arg2, ⟨%f_arg8, HW_arg8, %h_arg8⟩, ⟨%f_arg10, HW_arg10, %h_arg10⟩⟩
    iapply (wp_wand_r Idealize.ShloMosaic.frame (wpE (defs₀ (F := F)) 𝒱 (c : Thread nD τ) bd) E)
    isplitl [HR_arg2 HW_arg8 HW_arg10]
    · iapply ((trip (F := F) 𝒱 c bd i arg2 harg2 arg3 harg3 arg4 harg4 arg5 harg5 arg6 harg6 arg7 harg7 arg8 harg8 arg9 harg9 arg10 harg10 X_arg2 k).2.2 E f_arg8 f_arg10)
      isplitl [HR_arg2]; · iexact HR_arg2
      isplitl [HW_arg8]; · iexact HW_arg8
      iexact HW_arg10
    · iintro %_ ⟨HR_arg2, HW_arg8, HW_arg10⟩
      isplitl [HR_arg2]; · iexact HR_arg2
      rw [pb_k0_t1_succ]
      isplitl [HW_arg8]
      · iexists _; isplitl [HW_arg8]; · iexact HW_arg8
        ipureintro; rw [h_arg8, ← View.writes_append]
      iexists _; isplitl [HW_arg10]; · iexact HW_arg10
      ipureintro; rw [h_arg10, ← View.writes_append]

end Cert.Kernel.Hand

end
-- ==== Proof.Run.lean ====
module

public import proofs.«01_k».proof.Proof.Loop
public import proofs.«01_k».proof.Proof.Gen.Kernel.Frame
public import proofs.«01_k».proof.Proof.Gen.Kernel.Points
public import Idealize.ShloMosaic.Lib.Pipeline.FrameBody
public import Idealize.ShloMosaic.Lib.Ring
public import Idealize.ShloMosaic.Lib.Exec
public import Idealize.ShloMosaic.Lib.Tactic
public import Idealize.ShloMosaic.Lib.WordCmp
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- One staging buffer of output window 5, through which its contents are stated (`View.read_writes_of_cover`: the
    choice does not matter). -/
abbrev VO0_5 : View sig .tc .vmem S1x256x3072 .bf16 := (Memref.whole cc0_stg5_0 : Memref sig .tc .vmem S1x256x3072 .bf16).view
/-- One staging buffer of output window 6, through which its contents are stated (`View.read_writes_of_cover`: the
    choice does not matter). -/
abbrev VO0_6 : View sig .tc .vmem S1x256x6144 .fp8e4m3 := (Memref.whole cc0_stg6_0 : Memref sig .tc .vmem S1x256x6144 .fp8e4m3).view
/-- One staging buffer of output window 7, through which its contents are stated (`View.read_writes_of_cover`: the
    choice does not matter). -/
abbrev VO0_7 : View sig .tc .vmem S1x1x256 .f32 := (Memref.whole cc0_stg7_0 : Memref sig .tc .vmem S1x1x256 .f32).view
/-- Each window's current staging memref at point `t`, spelled as the pipeline passes it (`bodyAt0`), and its wholeness. -/
abbrev ms0_0 (t : Fin cfg0.N) : Memref sig .tc .vmem S12288x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6144x3072 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3072 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3072 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x3072 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x3072 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x6144 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x256 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S256x128 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

-- (the run's proof term is large: the definition's epilogue — `abstractNestedProofs` — walks it past the default budget)
set_option backward.proofsInPublic true in
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S12288x128 .bf16) (harg2 : arg2.IsWhole) (arg3 : Memref sig .tc .vmem S6144x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S256x3072 .bf16) (harg6 : arg6.IsWhole) (arg7 : Memref sig .tc .vmem S1x256x3072 .bf16) (harg7 : arg7.IsWhole) (arg8 : Memref sig .tc .vmem S1x256x6144 .fp8e4m3) (harg8 : arg8.IsWhole) (arg9 : Memref sig .tc .vmem S1x1x256 .f32) (harg9 : arg9.IsWhole) (arg10 : Memref sig .tc .vmem S256x128 .f32) (harg10 : arg10.IsWhole)
    (x0 : Vec F S12288x128 .bf16) (x1 : Vec F S6144x3072 .fp8e4m3) (x2 : Vec F S1x3072 .f32) (x3 : Vec F S1x3072 .f32) (x4 : Vec F S256x3072 .bf16) :
    Σ' (L5 : List (View.Piece (Elt F) S1x256x3072 .bf16)), Σ' (L6 : List (View.Piece (Elt F) S1x256x6144 .fp8e4m3)), { L7 : List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ d, owns (c : Thread nD τ) arg10 fullShare d)) -∗ K ⟨⟩))
          ⊢ wp frame (wpE (defs₀ (F := F)) Variants.none c none) E (cc0_patch_embed i arg2 harg2 arg3 harg3 arg4 harg4 arg5 harg5 arg6 harg6 arg7 harg7 arg8 harg8 arg9 harg9 arg10 harg10) K } := by
  refine ⟨?_, ?_, ?_, fun E K => ?run⟩
  case run =>
    simp only [cc0_patch_embed_eq_skeleton]; unfold cc0_patch_embed_skel
    simp only [k0_part106_eq_skeleton, k0_part107_eq_skeleton, k0_part108_eq_skeleton, k0_part109_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    have hrd0 : ∀ (𝒱 : Variants) (c : Dev nD) (bd : Option 𝒱.V) (i : grid0.Coords) (arg2 : Memref sig .tc .vmem S12288x128 .bf16) (harg2 : arg2.IsWhole) (arg3 : Memref sig .tc .vmem S6144x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S256x3072 .bf16) (harg6 : arg6.IsWhole) (arg7 : Memref sig .tc .vmem S1x256x3072 .bf16) (harg7 : arg7.IsWhole) (arg8 : Memref sig .tc .vmem S1x256x6144 .fp8e4m3) (harg8 : arg8.IsWhole) (arg9 : Memref sig .tc .vmem S1x1x256 .f32) (harg9 : arg9.IsWhole) (arg10 : Memref sig .tc .vmem S256x128 .f32) (harg10 : arg10.IsWhole) (X_arg2 : BufTy.Contents (Elt F) arg2.view.ty) (hrdF : BufTy.Contents (Elt F) arg10.view.ty) (hrdB : LoadRect S256x128), arg10.view.readAt (Elt F) hrdB (arg10.view.writes (Elt F) hrdF (pb_k0_t1 (F := F) 𝒱 c bd i arg2 harg2 arg3 harg3 arg4 harg4 arg5 harg5 arg6 harg6 arg7 harg7 arg8 harg8 arg9 harg9 arg10 harg10 X_arg2 (Scf.trips k0_t1_loop.lb k0_t1_loop.ub k0_t1_loop.st)).2) = arg10.view.readCov (pb_k0_t1 (F := F) 𝒱 c bd i arg2 harg2 arg3 harg3 arg4 harg4 arg5 harg5 arg6 harg6 arg7 harg7 arg8 harg8 arg9 harg9 arg10 harg10 X_arg2 (Scf.trips k0_t1_loop.lb k0_t1_loop.ub k0_t1_loop.st)).2 hrdB := fun 𝒱 c bd i arg2 harg2 arg3 harg3 arg4 harg4 arg5 harg5 arg6 harg6 arg7 harg7 arg8 harg8 arg9 harg9 arg10 harg10 X_arg2 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 X_arg2 (Scf.trips k0_t1_loop.lb k0_t1_loop.ub k0_t1_loop.st)).2 S8x128.size (by sl_kernel_rfl) (hrdB.idx hrdJ))
    have hrd1 : ∀ (𝒱 : Variants) (c : Dev nD) (bd : Option 𝒱.V) (i : grid0.Coords) (arg2 : Memref sig .tc .vmem S12288x128 .bf16) (harg2 : arg2.IsWhole) (arg3 : Memref sig .tc .vmem S6144x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S256x3072 .bf16) (harg6 : arg6.IsWhole) (arg7 : Memref sig .tc .vmem S1x256x3072 .bf16) (harg7 : arg7.IsWhole) (arg8 : Memref sig .tc .vmem S1x256x6144 .fp8e4m3) (harg8 : arg8.IsWhole) (arg9 : Memref sig .tc .vmem S1x1x256 .f32) (harg9 : arg9.IsWhole) (arg10 : Memref sig .tc .vmem S256x128 .f32) (harg10 : arg10.IsWhole) (X_arg2 : BufTy.Contents (Elt F) arg2.view.ty) (hrdF : BufTy.Contents (Elt F) arg8.view.ty) (hrdB : LoadRect S1x256x6144), arg8.view.readAt (Elt F) hrdB (arg8.view.writes (Elt F) hrdF (pb_k0_t1 (F := F) 𝒱 c bd i arg2 harg2 arg3 harg3 arg4 harg4 arg5 harg5 arg6 harg6 arg7 harg7 arg8 harg8 arg9 harg9 arg10 harg10 X_arg2 (Scf.trips k0_t1_loop.lb k0_t1_loop.ub k0_t1_loop.st)).1) = arg8.view.readCov (pb_k0_t1 (F := F) 𝒱 c bd i arg2 harg2 arg3 harg3 arg4 harg4 arg5 harg5 arg6 harg6 arg7 harg7 arg8 harg8 arg9 harg9 arg10 harg10 X_arg2 (Scf.trips k0_t1_loop.lb k0_t1_loop.ub k0_t1_loop.st)).1 hrdB := fun 𝒱 c bd i arg2 harg2 arg3 harg3 arg4 harg4 arg5 harg5 arg6 harg6 arg7 harg7 arg8 harg8 arg9 harg9 arg10 harg10 X_arg2 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 X_arg2 (Scf.trips k0_t1_loop.lb k0_t1_loop.ub k0_t1_loop.st)).1 S1x32x128.size (by sl_kernel_rfl) (hrdB.idx hrdJ))
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexists _, _; isplitr; swap; · iexact HS0
    ipureintro; rfl

end Cert.Kernel.Hand

end
-- ==== Proof.Frame.lean ====
module

public import proofs.«01_k».proof.Proof.Run
public import Idealize.ShloMosaic.Lib.Pipeline.FrameBody
public import Idealize.ShloMosaic.Lib.Ring
public import Idealize.ShloMosaic.Lib.Exec
public import Idealize.ShloMosaic.Lib.Tactic
public import Idealize.ShloMosaic.Lib.WordCmp
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The run's pieces for output 5 tile its block (6 stores of `S1x256x512`, checked by the kernel's evaluation: Lib/Ring.lean `Piece.tiledL`, linear in the pieces, through a loop's `@[irreducible]` trip theorem too), so they cover it. -/
theorem cover0_A_5 (c : Dev nD) (i : grid0.Coords) (arg2 : Memref sig .tc .vmem S12288x128 .bf16) (harg2 : arg2.IsWhole) (arg3 : Memref sig .tc .vmem S6144x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S256x3072 .bf16) (harg6 : arg6.IsWhole) (arg7 : Memref sig .tc .vmem S1x256x3072 .bf16) (harg7 : arg7.IsWhole) (arg8 : Memref sig .tc .vmem S1x256x6144 .fp8e4m3) (harg8 : arg8.IsWhole) (arg9 : Memref sig .tc .vmem S1x1x256 .f32) (harg9 : arg9.IsWhole) (arg10 : Memref sig .tc .vmem S256x128 .f32) (harg10 : arg10.IsWhole)
    (x0 : Vec F S12288x128 .bf16) (x1 : Vec F S6144x3072 .fp8e4m3) (x2 : Vec F S1x3072 .f32) (x3 : Vec F S1x3072 .f32) (x4 : Vec F S256x3072 .bf16) (y : S1x256x3072.Idx) :
    ∃ pc ∈ (kernelRun0_A c i arg2 harg2 arg3 harg3 arg4 harg4 arg5 harg5 arg6 harg6 arg7 harg7 arg8 harg8 arg9 harg9 arg10 harg10 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 x0 x1 x2 x3 x4).1 S1x256x512.size (by sl_kernel_rfl) y

/-- What the run leaves in output 5's staging buffer: its pieces read back over junk. -/
def out0_A_5 (c : Dev nD) (i : grid0.Coords) (arg2 : Memref sig .tc .vmem S12288x128 .bf16) (harg2 : arg2.IsWhole) (arg3 : Memref sig .tc .vmem S6144x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S256x3072 .bf16) (harg6 : arg6.IsWhole) (arg7 : Memref sig .tc .vmem S1x256x3072 .bf16) (harg7 : arg7.IsWhole) (arg8 : Memref sig .tc .vmem S1x256x6144 .fp8e4m3) (harg8 : arg8.IsWhole) (arg9 : Memref sig .tc .vmem S1x1x256 .f32) (harg9 : arg9.IsWhole) (arg10 : Memref sig .tc .vmem S256x128 .f32) (harg10 : arg10.IsWhole)
    (x0 : Vec F S12288x128 .bf16) (x1 : Vec F S6144x3072 .fp8e4m3) (x2 : Vec F S1x3072 .f32) (x3 : Vec F S1x3072 .f32) (x4 : Vec F S256x3072 .bf16) : Vec F S1x256x3072 .bf16 :=
  VO0_5.read (Elt F) (VO0_5.writes (Elt F) VO0_5.junk (kernelRun0_A c i arg2 harg2 arg3 harg3 arg4 harg4 arg5 harg5 arg6 harg6 arg7 harg7 arg8 harg8 arg9 harg9 arg10 harg10 x0 x1 x2 x3 x4).1)

/-- The run's pieces for output 6 tile its block (384 stores of `S1x32x128`, checked by the kernel's evaluation: Lib/Ring.lean `Piece.tiledL`, linear in the pieces, through a loop's `@[irreducible]` trip theorem too), so they cover it. -/
theorem cover0_A_6 (c : Dev nD) (i : grid0.Coords) (arg2 : Memref sig .tc .vmem S12288x128 .bf16) (harg2 : arg2.IsWhole) (arg3 : Memref sig .tc .vmem S6144x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S256x3072 .bf16) (harg6 : arg6.IsWhole) (arg7 : Memref sig .tc .vmem S1x256x3072 .bf16) (harg7 : arg7.IsWhole) (arg8 : Memref sig .tc .vmem S1x256x6144 .fp8e4m3) (harg8 : arg8.IsWhole) (arg9 : Memref sig .tc .vmem S1x1x256 .f32) (harg9 : arg9.IsWhole) (arg10 : Memref sig .tc .vmem S256x128 .f32) (harg10 : arg10.IsWhole)
    (x0 : Vec F S12288x128 .bf16) (x1 : Vec F S6144x3072 .fp8e4m3) (x2 : Vec F S1x3072 .f32) (x3 : Vec F S1x3072 .f32) (x4 : Vec F S256x3072 .bf16) (y : S1x256x6144.Idx) :
    ∃ pc ∈ (kernelRun0_A c i arg2 harg2 arg3 harg3 arg4 harg4 arg5 harg5 arg6 harg6 arg7 harg7 arg8 harg8 arg9 harg9 arg10 harg10 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 x0 x1 x2 x3 x4).2.1 S1x32x128.size (by sl_kernel_rfl) y

/-- What the run leaves in output 6's staging buffer: its pieces read back over junk. -/
def out0_A_6 (c : Dev nD) (i : grid0.Coords) (arg2 : Memref sig .tc .vmem S12288x128 .bf16) (harg2 : arg2.IsWhole) (arg3 : Memref sig .tc .vmem S6144x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S256x3072 .bf16) (harg6 : arg6.IsWhole) (arg7 : Memref sig .tc .vmem S1x256x3072 .bf16) (harg7 : arg7.IsWhole) (arg8 : Memref sig .tc .vmem S1x256x6144 .fp8e4m3) (harg8 : arg8.IsWhole) (arg9 : Memref sig .tc .vmem S1x1x256 .f32) (harg9 : arg9.IsWhole) (arg10 : Memref sig .tc .vmem S256x128 .f32) (harg10 : arg10.IsWhole)
    (x0 : Vec F S12288x128 .bf16) (x1 : Vec F S6144x3072 .fp8e4m3) (x2 : Vec F S1x3072 .f32) (x3 : Vec F S1x3072 .f32) (x4 : Vec F S256x3072 .bf16) : Vec F S1x256x6144 .fp8e4m3 :=
  VO0_6.read (Elt F) (VO0_6.writes (Elt F) VO0_6.junk (kernelRun0_A c i arg2 harg2 arg3 harg3 arg4 harg4 arg5 harg5 arg6 harg6 arg7 harg7 arg8 harg8 arg9 harg9 arg10 harg10 x0 x1 x2 x3 x4).2.1)

/-- The run's pieces for output 7 tile its block (1 store of `S1x1x256`, checked by the kernel's evaluation: Lib/Ring.lean `Piece.tiledL`, linear in the pieces, through a loop's `@[irreducible]` trip theorem too), so they cover it. -/
theorem cover0_A_7 (c : Dev nD) (i : grid0.Coords) (arg2 : Memref sig .tc .vmem S12288x128 .bf16) (harg2 : arg2.IsWhole) (arg3 : Memref sig .tc .vmem S6144x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S256x3072 .bf16) (harg6 : arg6.IsWhole) (arg7 : Memref sig .tc .vmem S1x256x3072 .bf16) (harg7 : arg7.IsWhole) (arg8 : Memref sig .tc .vmem S1x256x6144 .fp8e4m3) (harg8 : arg8.IsWhole) (arg9 : Memref sig .tc .vmem S1x1x256 .f32) (harg9 : arg9.IsWhole) (arg10 : Memref sig .tc .vmem S256x128 .f32) (harg10 : arg10.IsWhole)
    (x0 : Vec F S12288x128 .bf16) (x1 : Vec F S6144x3072 .fp8e4m3) (x2 : Vec F S1x3072 .f32) (x3 : Vec F S1x3072 .f32) (x4 : Vec F S256x3072 .bf16) (y : S1x1x256.Idx) :
    ∃ pc ∈ (kernelRun0_A c i arg2 harg2 arg3 harg3 arg4 harg4 arg5 harg5 arg6 harg6 arg7 harg7 arg8 harg8 arg9 harg9 arg10 harg10 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 x0 x1 x2 x3 x4).2.2.1 S1x1x256.size (by sl_kernel_rfl) y

/-- What the run leaves in output 7's staging buffer: its pieces read back over junk. -/
def out0_A_7 (c : Dev nD) (i : grid0.Coords) (arg2 : Memref sig .tc .vmem S12288x128 .bf16) (harg2 : arg2.IsWhole) (arg3 : Memref sig .tc .vmem S6144x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S256x3072 .bf16) (harg6 : arg6.IsWhole) (arg7 : Memref sig .tc .vmem S1x256x3072 .bf16) (harg7 : arg7.IsWhole) (arg8 : Memref sig .tc .vmem S1x256x6144 .fp8e4m3) (harg8 : arg8.IsWhole) (arg9 : Memref sig .tc .vmem S1x1x256 .f32) (harg9 : arg9.IsWhole) (arg10 : Memref sig .tc .vmem S256x128 .f32) (harg10 : arg10.IsWhole)
    (x0 : Vec F S12288x128 .bf16) (x1 : Vec F S6144x3072 .fp8e4m3) (x2 : Vec F S1x3072 .f32) (x3 : Vec F S1x3072 .f32) (x4 : Vec F S256x3072 .bf16) : Vec F S1x1x256 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 x0 x1 x2 x3 x4).2.2.1)

/-! ## What the outputs hold after each point -/

/-- What the outputs' staging buffers hold after the body at point `t` (as a tuple, in window order): the run's contents at
    the point's memrefs and input blocks. -/
def outsAt0 (c : Dev nD) (t : Fin cfg0.N) : Vec F S1x256x3072 .bf16 × Vec F S1x256x6144 .fp8e4m3 × Vec F S1x1x256 .f32 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t).1
    | ⟨6, _⟩ => (outsAt0 m c t).2.1
    | ⟨7, _⟩ => (outsAt0 m c t).2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t).1 := by dsimp only [dats]
theorem after0_6 (c : Dev nD) (t : Fin cfg0.N) : (dats m 0 c).after 6 t = (outsAt0 m c t).2.1 := by dsimp only [dats]
theorem after0_7 (c : Dev nD) (t : Fin cfg0.N) : (dats m 0 c).after 7 t = (outsAt0 m c t).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  unfold outsAt0
  unfold out0_A_5 out0_A_6 out0_A_7; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ (iblk m c 0 t) (iblk m c 1 t) (iblk m c 2 t) (iblk m c 3 t) (iblk m c 4 t)).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  iintro ⟨H0, H1, H2, H3, H4, ⟨%e5, H5⟩, ⟨%e6, H6⟩, ⟨%e7, H7⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _ _ _ _ _)
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _)
  unfold owns; iexists _; isplitr
  swap; · iexact H7
  ipureintro; exact View.read_writes_of_cover _ _ _ _ _ (cover0_A_7 c _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Hand

end
-- ==== Proof.TripIdeal.lean ====
module

public import proofs.«01_k».proof.Proof.Gen.KernelIdeal.Skeleton
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- One trip's resources: the signal block at its contents, the codes' block and the row scales at any. -/
abbrev Trip (c : Dev nD) (arg2 : Memref sig .tc .vmem S12288x128 .bf16) (arg8 : Memref sig .tc .vmem S1x256x6144 .fp8e4m3) (arg10 : Memref sig .tc .vmem S256x128 .f32) (X : BufTy.Contents (Elt F) arg2.view.ty) (f8 : BufTy.Contents (Elt F) arg8.view.ty) (f10 : BufTy.Contents (Elt F) arg10.view.ty) : sProp 𝕄G :=
  iprop((arg2.view.loc (c : Thread nD τ) ↦[arg2.view.set]{fullShare} X) ∗ (arg8.view.loc (c : Thread nD τ) ↦[arg8.view.set]{fullShare} f8) ∗ (arg10.view.loc (c : Thread nD τ) ↦[arg10.view.set]{fullShare} f10))

set_option backward.proofsInPublic true in
set_option maxHeartbeats 4000000 in
/-- One trip of the loop over the groups of 32 rows, run at a symbolic trip: the pieces it writes. -/
@[irreducible] def trip (𝒱 : Variants) (c : Dev nD) (bd : Option 𝒱.V) (i : grid0.Coords) (arg2 : Memref sig .tc .vmem S12288x128 .bf16) (harg2 : arg2.IsWhole) (arg3 : Memref sig .tc .vmem S6144x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S256x3072 .bf16) (harg6 : arg6.IsWhole) (arg7 : Memref sig .tc .vmem S1x256x3072 .bf16) (harg7 : arg7.IsWhole) (arg8 : Memref sig .tc .vmem S1x256x6144 .fp8e4m3) (harg8 : arg8.IsWhole) (arg9 : Memref sig .tc .vmem S1x1x256 .f32) (harg9 : arg9.IsWhole) (arg10 : Memref sig .tc .vmem S256x128 .f32) (harg10 : arg10.IsWhole) (X : BufTy.Contents (Elt F) arg2.view.ty) (k : Fin k0_t1_loop.trips) :
    Σ' (L8 : List (View.Piece (Elt F) S1x256x6144 .fp8e4m3)), { L10 : List (View.Piece (Elt F) S256x128 .f32) // ∀ (E : Set ℕ) (f8 : BufTy.Contents (Elt F) arg8.view.ty) (f10 : BufTy.Contents (Elt F) arg10.view.ty),
      Trip (F := F) c arg2 arg8 arg10 X f8 f10
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 k PUnit.unit)
          (fun _ => Trip (F := F) c arg2 arg8 arg10 X (arg8.view.writes (Elt F) f8 L8) (arg10.view.writes (Elt F) f10 L10)) } := by
  have hk : k.val < 8 := Nat.lt_of_lt_of_le k.isLt k0_t1_abs.2.1
  refine ⟨?_, ?_, fun E f8 f10 => ?run⟩
  case run =>
    unfold k0_t1_body
    iintro ⟨HR2, HW8, HW10⟩
    sl_exec_parts
    sl_step
    sl_close

end Cert.KernelIdeal.Hand

end
-- ==== Proof.LoopIdeal.lean ====
module

public import proofs.«01_k».proof.Proof.TripIdeal
public import Idealize.ShloMosaic.Lib.Pipeline.FrameBody
public import Idealize.ShloMosaic.Lib.Ring
public import Idealize.ShloMosaic.Lib.Exec
public import Idealize.ShloMosaic.Lib.Tactic
public import Idealize.ShloMosaic.Lib.WordCmp
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The trip's piece lists (plain projections of `trip_…`, for the recursion below to cite without
   its proof). -/
abbrev tripL_k0_t1 (𝒱 : Variants) (c : Dev nD) (bd : Option 𝒱.V) (i : grid0.Coords) (arg2 : Memref sig .tc .vmem S12288x128 .bf16) (harg2 : arg2.IsWhole) (arg3 : Memref sig .tc .vmem S6144x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S256x3072 .bf16) (harg6 : arg6.IsWhole) (arg7 : Memref sig .tc .vmem S1x256x3072 .bf16) (harg7 : arg7.IsWhole) (arg8 : Memref sig .tc .vmem S1x256x6144 .fp8e4m3) (harg8 : arg8.IsWhole) (arg9 : Memref sig .tc .vmem S1x1x256 .f32) (harg9 : arg9.IsWhole) (arg10 : Memref sig .tc .vmem S256x128 .f32) (harg10 : arg10.IsWhole) (X_arg2 : BufTy.Contents (Elt F) arg2.view.ty) (k : Fin k0_t1_loop.trips) : List (View.Piece (Elt F) S1x256x6144 .fp8e4m3) × List (View.Piece (Elt F) S256x128 .f32) :=
  ((trip (F := F) 𝒱 c bd i arg2 harg2 arg3 harg3 arg4 harg4 arg5 harg5 arg6 harg6 arg7 harg7 arg8 harg8 arg9 harg9 arg10 harg10 X_arg2 k).1, (trip (F := F) 𝒱 c bd i arg2 harg2 arg3 harg3 arg4 harg4 arg5 harg5 arg6 harg6 arg7 harg7 arg8 harg8 arg9 harg9 arg10 harg10 X_arg2 k).2.1)

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg2 : Memref sig .tc .vmem S12288x128 .bf16) (harg2 : arg2.IsWhole) (arg3 : Memref sig .tc .vmem S6144x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S256x3072 .bf16) (harg6 : arg6.IsWhole) (arg7 : Memref sig .tc .vmem S1x256x3072 .bf16) (harg7 : arg7.IsWhole) (arg8 : Memref sig .tc .vmem S1x256x6144 .fp8e4m3) (harg8 : arg8.IsWhole) (arg9 : Memref sig .tc .vmem S1x1x256 .f32) (harg9 : arg9.IsWhole) (arg10 : Memref sig .tc .vmem S256x128 .f32) (harg10 : arg10.IsWhole) (X_arg2 : BufTy.Contents (Elt F) arg2.view.ty) (k : ℕ) (prev : List (View.Piece (Elt F) S1x256x6144 .fp8e4m3) × List (View.Piece (Elt F) S256x128 .f32)) : List (View.Piece (Elt F) S1x256x6144 .fp8e4m3) × List (View.Piece (Elt F) S256x128 .f32) :=
  if h : k < k0_t1_loop.trips then
    ((tripL_k0_t1 (F := F) 𝒱 c bd i arg2 harg2 arg3 harg3 arg4 harg4 arg5 harg5 arg6 harg6 arg7 harg7 arg8 harg8 arg9 harg9 arg10 harg10 X_arg2 ⟨k, h⟩).1 ++ prev.1, (tripL_k0_t1 (F := F) 𝒱 c bd i arg2 harg2 arg3 harg3 arg4 harg4 arg5 harg5 arg6 harg6 arg7 harg7 arg8 harg8 arg9 harg9 arg10 harg10 X_arg2 ⟨k, h⟩).2 ++ prev.2)
  else prev

/-- The pieces of the trips before `k` (last first), per written memref. -/
def pb_k0_t1 (𝒱 : Variants) (c : Dev nD) (bd : Option 𝒱.V) (i : grid0.Coords) (arg2 : Memref sig .tc .vmem S12288x128 .bf16) (harg2 : arg2.IsWhole) (arg3 : Memref sig .tc .vmem S6144x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S256x3072 .bf16) (harg6 : arg6.IsWhole) (arg7 : Memref sig .tc .vmem S1x256x3072 .bf16) (harg7 : arg7.IsWhole) (arg8 : Memref sig .tc .vmem S1x256x6144 .fp8e4m3) (harg8 : arg8.IsWhole) (arg9 : Memref sig .tc .vmem S1x1x256 .f32) (harg9 : arg9.IsWhole) (arg10 : Memref sig .tc .vmem S256x128 .f32) (harg10 : arg10.IsWhole) (X_arg2 : BufTy.Contents (Elt F) arg2.view.ty) : ℕ → List (View.Piece (Elt F) S1x256x6144 .fp8e4m3) × List (View.Piece (Elt F) S256x128 .f32)
  | 0 => ([], [])
  | k + 1 => pb_k0_t1Step 𝒱 c bd i arg2 harg2 arg3 harg3 arg4 harg4 arg5 harg5 arg6 harg6 arg7 harg7 arg8 harg8 arg9 harg9 arg10 harg10 X_arg2 k (pb_k0_t1 𝒱 c bd i arg2 harg2 arg3 harg3 arg4 harg4 arg5 harg5 arg6 harg6 arg7 harg7 arg8 harg8 arg9 harg9 arg10 harg10 X_arg2 k)

theorem pb_k0_t1_succ (𝒱 : Variants) (c : Dev nD) (bd : Option 𝒱.V) (i : grid0.Coords) (arg2 : Memref sig .tc .vmem S12288x128 .bf16) (harg2 : arg2.IsWhole) (arg3 : Memref sig .tc .vmem S6144x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S256x3072 .bf16) (harg6 : arg6.IsWhole) (arg7 : Memref sig .tc .vmem S1x256x3072 .bf16) (harg7 : arg7.IsWhole) (arg8 : Memref sig .tc .vmem S1x256x6144 .fp8e4m3) (harg8 : arg8.IsWhole) (arg9 : Memref sig .tc .vmem S1x1x256 .f32) (harg9 : arg9.IsWhole) (arg10 : Memref sig .tc .vmem S256x128 .f32) (harg10 : arg10.IsWhole) (X_arg2 : BufTy.Contents (Elt F) arg2.view.ty) (k : Fin k0_t1_loop.trips) :
    pb_k0_t1 (F := F) 𝒱 c bd i arg2 harg2 arg3 harg3 arg4 harg4 arg5 harg5 arg6 harg6 arg7 harg7 arg8 harg8 arg9 harg9 arg10 harg10 X_arg2 (k.val + 1)
      = ((tripL_k0_t1 (F := F) 𝒱 c bd i arg2 harg2 arg3 harg3 arg4 harg4 arg5 harg5 arg6 harg6 arg7 harg7 arg8 harg8 arg9 harg9 arg10 harg10 X_arg2 k).1 ++ (pb_k0_t1 (F := F) 𝒱 c bd i arg2 harg2 arg3 harg3 arg4 harg4 arg5 harg5 arg6 harg6 arg7 harg7 arg8 harg8 arg9 harg9 arg10 harg10 X_arg2 k.val).1, (tripL_k0_t1 (F := F) 𝒱 c bd i arg2 harg2 arg3 harg3 arg4 harg4 arg5 harg5 arg6 harg6 arg7 harg7 arg8 harg8 arg9 harg9 arg10 harg10 X_arg2 k).2 ++ (pb_k0_t1 (F := F) 𝒱 c bd i arg2 harg2 arg3 harg3 arg4 harg4 arg5 harg5 arg6 harg6 arg7 harg7 arg8 harg8 arg9 harg9 arg10 harg10 X_arg2 k.val).2) := by
  rw [pb_k0_t1.eq_2]; unfold pb_k0_t1Step; exact dif_pos k.isLt

/-- THE INVARIANT before trip `k`: arg2 read at `X_·`; arg8, arg10 holding the pieces of the trips
   before `k` written over the contents at loop entry `G_·` (stated `∃ f, … ∗ ⌜f = …⌝`, so that a
   hypothesis of any contents matches and the equation is what is proved). -/
abbrev inv_k0_t1 (𝒱 : Variants) (c : Dev nD) (bd : Option 𝒱.V) (i : grid0.Coords) (arg2 : Memref sig .tc .vmem S12288x128 .bf16) (harg2 : arg2.IsWhole) (arg3 : Memref sig .tc .vmem S6144x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S256x3072 .bf16) (harg6 : arg6.IsWhole) (arg7 : Memref sig .tc .vmem S1x256x3072 .bf16) (harg7 : arg7.IsWhole) (arg8 : Memref sig .tc .vmem S1x256x6144 .fp8e4m3) (harg8 : arg8.IsWhole) (arg9 : Memref sig .tc .vmem S1x1x256 .f32) (harg9 : arg9.IsWhole) (arg10 : Memref sig .tc .vmem S256x128 .f32) (harg10 : arg10.IsWhole) (X_arg2 : BufTy.Contents (Elt F) arg2.view.ty) (G_arg8 : BufTy.Contents (Elt F) arg8.view.ty) (G_arg10 : BufTy.Contents (Elt F) arg10.view.ty) (k : ℕ) (_u : PUnit) : sProp 𝕄 :=
  iprop((arg2.view.loc (c : Thread nD τ) ↦[arg2.view.set]{fullShare} X_arg2) ∗ (∃ f, (arg8.view.loc (c : Thread nD τ) ↦[arg8.view.set]{fullShare} f) ∗ ⌜f = arg8.view.writes (Elt F) G_arg8 (pb_k0_t1 (F := F) 𝒱 c bd i arg2 harg2 arg3 harg3 arg4 harg4 arg5 harg5 arg6 harg6 arg7 harg7 arg8 harg8 arg9 harg9 arg10 harg10 X_arg2 k).1⌝) ∗ (∃ f, (arg10.view.loc (c : Thread nD τ) ↦[arg10.view.set]{fullShare} f) ∗ ⌜f = arg10.view.writes (Elt F) G_arg10 (pb_k0_t1 (F := F) 𝒱 c bd i arg2 harg2 arg3 harg3 arg4 harg4 arg5 harg5 arg6 harg6 arg7 harg7 arg8 harg8 arg9 harg9 arg10 harg10 X_arg2 k).2⌝))

set_option warn.classDefReducibility false in
/-- THE LOOP BY ITS INVARIANT — generated (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg2 : Memref sig .tc .vmem S12288x128 .bf16) (harg2 : arg2.IsWhole) (arg3 : Memref sig .tc .vmem S6144x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S256x3072 .bf16) (harg6 : arg6.IsWhole) (arg7 : Memref sig .tc .vmem S1x256x3072 .bf16) (harg7 : arg7.IsWhole) (arg8 : Memref sig .tc .vmem S1x256x6144 .fp8e4m3) (harg8 : arg8.IsWhole) (arg9 : Memref sig .tc .vmem S1x1x256 .f32) (harg9 : arg9.IsWhole) (arg10 : Memref sig .tc .vmem S256x128 .f32) (harg10 : arg10.IsWhole) (X_arg2 : BufTy.Contents (Elt F) arg2.view.ty) (G_arg8 : BufTy.Contents (Elt F) arg8.view.ty) (G_arg10 : BufTy.Contents (Elt F) arg10.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 where
  inv := inv_k0_t1 (F := F) 𝒱 c bd i arg2 harg2 arg3 harg3 arg4 harg4 arg5 harg5 arg6 harg6 arg7 harg7 arg8 harg8 arg9 harg9 arg10 harg10 X_arg2 G_arg8 G_arg10
  step k acc := by
    iintro ⟨HR_arg2, ⟨%f_arg8, HW_arg8, %h_arg8⟩, ⟨%f_arg10, HW_arg10, %h_arg10⟩⟩
    iapply (wp_wand_r Idealize.ShloMosaic.frame (wpE (defs₀ (F := F)) 𝒱 (c : Thread nD τ) bd) E)
    isplitl [HR_arg2 HW_arg8 HW_arg10]
    · iapply ((trip (F := F) 𝒱 c bd i arg2 harg2 arg3 harg3 arg4 harg4 arg5 harg5 arg6 harg6 arg7 harg7 arg8 harg8 arg9 harg9 arg10 harg10 X_arg2 k).2.2 E f_arg8 f_arg10)
      isplitl [HR_arg2]; · iexact HR_arg2
      isplitl [HW_arg8]; · iexact HW_arg8
      iexact HW_arg10
    · iintro %_ ⟨HR_arg2, HW_arg8, HW_arg10⟩
      isplitl [HR_arg2]; · iexact HR_arg2
      rw [pb_k0_t1_succ]
      isplitl [HW_arg8]
      · iexists _; isplitl [HW_arg8]; · iexact HW_arg8
        ipureintro; rw [h_arg8, ← View.writes_append]
      iexists _; isplitl [HW_arg10]; · iexact HW_arg10
      ipureintro; rw [h_arg10, ← View.writes_append]

end Cert.KernelIdeal.Hand

end
-- ==== Proof.RunIdeal.lean ====
module

public import proofs.«01_k».proof.Proof.LoopIdeal
public import proofs.«01_k».proof.Proof.Gen.KernelIdeal.Frame
public import proofs.«01_k».proof.Proof.Gen.KernelIdeal.Points
public import Idealize.ShloMosaic.Lib.Pipeline.FrameBody
public import Idealize.ShloMosaic.Lib.Ring
public import Idealize.ShloMosaic.Lib.Exec
public import Idealize.ShloMosaic.Lib.Tactic
public import Idealize.ShloMosaic.Lib.WordCmp
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One staging buffer of output window 5, through which its contents are stated (`View.read_writes_of_cover`: the
    choice does not matter). -/
abbrev VO0_5 : View sig .tc .vmem S1x256x3072 .bf16 := (Memref.whole cc0_stg5_0 : Memref sig .tc .vmem S1x256x3072 .bf16).view
/-- One staging buffer of output window 6, through which its contents are stated (`View.read_writes_of_cover`: the
    choice does not matter). -/
abbrev VO0_6 : View sig .tc .vmem S1x256x6144 .fp8e4m3 := (Memref.whole cc0_stg6_0 : Memref sig .tc .vmem S1x256x6144 .fp8e4m3).view
/-- One staging buffer of output window 7, through which its contents are stated (`View.read_writes_of_cover`: the
    choice does not matter). -/
abbrev VO0_7 : View sig .tc .vmem S1x1x256 .f32 := (Memref.whole cc0_stg7_0 : Memref sig .tc .vmem S1x1x256 .f32).view
/-- Each window's current staging memref at point `t`, spelled as the pipeline passes it (`bodyAt0`), and its wholeness. -/
abbrev ms0_0 (t : Fin cfg0.N) : Memref sig .tc .vmem S12288x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6144x3072 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3072 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3072 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x3072 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x3072 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x6144 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x256 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S256x128 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

-- (the run's proof term is large: the definition's epilogue — `abstractNestedProofs` — walks it past the default budget)
set_option backward.proofsInPublic true in
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S12288x128 .bf16) (harg2 : arg2.IsWhole) (arg3 : Memref sig .tc .vmem S6144x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S256x3072 .bf16) (harg6 : arg6.IsWhole) (arg7 : Memref sig .tc .vmem S1x256x3072 .bf16) (harg7 : arg7.IsWhole) (arg8 : Memref sig .tc .vmem S1x256x6144 .fp8e4m3) (harg8 : arg8.IsWhole) (arg9 : Memref sig .tc .vmem S1x1x256 .f32) (harg9 : arg9.IsWhole) (arg10 : Memref sig .tc .vmem S256x128 .f32) (harg10 : arg10.IsWhole)
    (x0 : Vec F S12288x128 .bf16) (x1 : Vec F S6144x3072 .fp8e4m3) (x2 : Vec F S1x3072 .f32) (x3 : Vec F S1x3072 .f32) (x4 : Vec F S256x3072 .bf16) :
    Σ' (L5 : List (View.Piece (Elt F) S1x256x3072 .bf16)), Σ' (L6 : List (View.Piece (Elt F) S1x256x6144 .fp8e4m3)), { L7 : List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ d, owns (c : Thread nD τ) arg10 fullShare d)) -∗ K ⟨⟩))
          ⊢ wp frame (wpE (defs₀ (F := F)) Variants.none c none) E (cc0_patch_embed i arg2 harg2 arg3 harg3 arg4 harg4 arg5 harg5 arg6 harg6 arg7 harg7 arg8 harg8 arg9 harg9 arg10 harg10) K } := by
  refine ⟨?_, ?_, ?_, fun E K => ?run⟩
  case run =>
    simp only [cc0_patch_embed_eq_skeleton]; unfold cc0_patch_embed_skel
    simp only [k0_part106_eq_skeleton, k0_part107_eq_skeleton, k0_part108_eq_skeleton, k0_part109_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    have hrd0 : ∀ (𝒱 : Variants) (c : Dev nD) (bd : Option 𝒱.V) (i : grid0.Coords) (arg2 : Memref sig .tc .vmem S12288x128 .bf16) (harg2 : arg2.IsWhole) (arg3 : Memref sig .tc .vmem S6144x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S256x3072 .bf16) (harg6 : arg6.IsWhole) (arg7 : Memref sig .tc .vmem S1x256x3072 .bf16) (harg7 : arg7.IsWhole) (arg8 : Memref sig .tc .vmem S1x256x6144 .fp8e4m3) (harg8 : arg8.IsWhole) (arg9 : Memref sig .tc .vmem S1x1x256 .f32) (harg9 : arg9.IsWhole) (arg10 : Memref sig .tc .vmem S256x128 .f32) (harg10 : arg10.IsWhole) (X_arg2 : BufTy.Contents (Elt F) arg2.view.ty) (hrdF : BufTy.Contents (Elt F) arg10.view.ty) (hrdB : LoadRect S256x128), arg10.view.readAt (Elt F) hrdB (arg10.view.writes (Elt F) hrdF (pb_k0_t1 (F := F) 𝒱 c bd i arg2 harg2 arg3 harg3 arg4 harg4 arg5 harg5 arg6 harg6 arg7 harg7 arg8 harg8 arg9 harg9 arg10 harg10 X_arg2 (Scf.trips k0_t1_loop.lb k0_t1_loop.ub k0_t1_loop.st)).2) = arg10.view.readCov (pb_k0_t1 (F := F) 𝒱 c bd i arg2 harg2 arg3 harg3 arg4 harg4 arg5 harg5 arg6 harg6 arg7 harg7 arg8 harg8 arg9 harg9 arg10 harg10 X_arg2 (Scf.trips k0_t1_loop.lb k0_t1_loop.ub k0_t1_loop.st)).2 hrdB := fun 𝒱 c bd i arg2 harg2 arg3 harg3 arg4 harg4 arg5 harg5 arg6 harg6 arg7 harg7 arg8 harg8 arg9 harg9 arg10 harg10 X_arg2 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 X_arg2 (Scf.trips k0_t1_loop.lb k0_t1_loop.ub k0_t1_loop.st)).2 S8x128.size (by sl_kernel_rfl) (hrdB.idx hrdJ))
    have hrd1 : ∀ (𝒱 : Variants) (c : Dev nD) (bd : Option 𝒱.V) (i : grid0.Coords) (arg2 : Memref sig .tc .vmem S12288x128 .bf16) (harg2 : arg2.IsWhole) (arg3 : Memref sig .tc .vmem S6144x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S256x3072 .bf16) (harg6 : arg6.IsWhole) (arg7 : Memref sig .tc .vmem S1x256x3072 .bf16) (harg7 : arg7.IsWhole) (arg8 : Memref sig .tc .vmem S1x256x6144 .fp8e4m3) (harg8 : arg8.IsWhole) (arg9 : Memref sig .tc .vmem S1x1x256 .f32) (harg9 : arg9.IsWhole) (arg10 : Memref sig .tc .vmem S256x128 .f32) (harg10 : arg10.IsWhole) (X_arg2 : BufTy.Contents (Elt F) arg2.view.ty) (hrdF : BufTy.Contents (Elt F) arg8.view.ty) (hrdB : LoadRect S1x256x6144), arg8.view.readAt (Elt F) hrdB (arg8.view.writes (Elt F) hrdF (pb_k0_t1 (F := F) 𝒱 c bd i arg2 harg2 arg3 harg3 arg4 harg4 arg5 harg5 arg6 harg6 arg7 harg7 arg8 harg8 arg9 harg9 arg10 harg10 X_arg2 (Scf.trips k0_t1_loop.lb k0_t1_loop.ub k0_t1_loop.st)).1) = arg8.view.readCov (pb_k0_t1 (F := F) 𝒱 c bd i arg2 harg2 arg3 harg3 arg4 harg4 arg5 harg5 arg6 harg6 arg7 harg7 arg8 harg8 arg9 harg9 arg10 harg10 X_arg2 (Scf.trips k0_t1_loop.lb k0_t1_loop.ub k0_t1_loop.st)).1 hrdB := fun 𝒱 c bd i arg2 harg2 arg3 harg3 arg4 harg4 arg5 harg5 arg6 harg6 arg7 harg7 arg8 harg8 arg9 harg9 arg10 harg10 X_arg2 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 X_arg2 (Scf.trips k0_t1_loop.lb k0_t1_loop.ub k0_t1_loop.st)).1 S1x32x128.size (by sl_kernel_rfl) (hrdB.idx hrdJ))
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexists _, _; isplitr; swap; · iexact HS0
    ipureintro; rfl

end Cert.KernelIdeal.Hand

end
-- ==== Proof.FrameIdeal.lean ====
module

public import proofs.«01_k».proof.Proof.RunIdeal
public import Idealize.ShloMosaic.Lib.Pipeline.FrameBody
public import Idealize.ShloMosaic.Lib.Ring
public import Idealize.ShloMosaic.Lib.Exec
public import Idealize.ShloMosaic.Lib.Tactic
public import Idealize.ShloMosaic.Lib.WordCmp
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's pieces for output 5 tile its block (6 stores of `S1x256x512`, checked by the kernel's evaluation: Lib/Ring.lean `Piece.tiledL`, linear in the pieces, through a loop's `@[irreducible]` trip theorem too), so they cover it. -/
theorem cover0_A_5 (c : Dev nD) (i : grid0.Coords) (arg2 : Memref sig .tc .vmem S12288x128 .bf16) (harg2 : arg2.IsWhole) (arg3 : Memref sig .tc .vmem S6144x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S256x3072 .bf16) (harg6 : arg6.IsWhole) (arg7 : Memref sig .tc .vmem S1x256x3072 .bf16) (harg7 : arg7.IsWhole) (arg8 : Memref sig .tc .vmem S1x256x6144 .fp8e4m3) (harg8 : arg8.IsWhole) (arg9 : Memref sig .tc .vmem S1x1x256 .f32) (harg9 : arg9.IsWhole) (arg10 : Memref sig .tc .vmem S256x128 .f32) (harg10 : arg10.IsWhole)
    (x0 : Vec F S12288x128 .bf16) (x1 : Vec F S6144x3072 .fp8e4m3) (x2 : Vec F S1x3072 .f32) (x3 : Vec F S1x3072 .f32) (x4 : Vec F S256x3072 .bf16) (y : S1x256x3072.Idx) :
    ∃ pc ∈ (kernelRun0_A c i arg2 harg2 arg3 harg3 arg4 harg4 arg5 harg5 arg6 harg6 arg7 harg7 arg8 harg8 arg9 harg9 arg10 harg10 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 x0 x1 x2 x3 x4).1 S1x256x512.size (by sl_kernel_rfl) y

/-- What the run leaves in output 5's staging buffer: its pieces read back over junk. -/
def out0_A_5 (c : Dev nD) (i : grid0.Coords) (arg2 : Memref sig .tc .vmem S12288x128 .bf16) (harg2 : arg2.IsWhole) (arg3 : Memref sig .tc .vmem S6144x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S256x3072 .bf16) (harg6 : arg6.IsWhole) (arg7 : Memref sig .tc .vmem S1x256x3072 .bf16) (harg7 : arg7.IsWhole) (arg8 : Memref sig .tc .vmem S1x256x6144 .fp8e4m3) (harg8 : arg8.IsWhole) (arg9 : Memref sig .tc .vmem S1x1x256 .f32) (harg9 : arg9.IsWhole) (arg10 : Memref sig .tc .vmem S256x128 .f32) (harg10 : arg10.IsWhole)
    (x0 : Vec F S12288x128 .bf16) (x1 : Vec F S6144x3072 .fp8e4m3) (x2 : Vec F S1x3072 .f32) (x3 : Vec F S1x3072 .f32) (x4 : Vec F S256x3072 .bf16) : Vec F S1x256x3072 .bf16 :=
  VO0_5.read (Elt F) (VO0_5.writes (Elt F) VO0_5.junk (kernelRun0_A c i arg2 harg2 arg3 harg3 arg4 harg4 arg5 harg5 arg6 harg6 arg7 harg7 arg8 harg8 arg9 harg9 arg10 harg10 x0 x1 x2 x3 x4).1)

/-- The run's pieces for output 6 tile its block (384 stores of `S1x32x128`, checked by the kernel's evaluation: Lib/Ring.lean `Piece.tiledL`, linear in the pieces, through a loop's `@[irreducible]` trip theorem too), so they cover it. -/
theorem cover0_A_6 (c : Dev nD) (i : grid0.Coords) (arg2 : Memref sig .tc .vmem S12288x128 .bf16) (harg2 : arg2.IsWhole) (arg3 : Memref sig .tc .vmem S6144x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S256x3072 .bf16) (harg6 : arg6.IsWhole) (arg7 : Memref sig .tc .vmem S1x256x3072 .bf16) (harg7 : arg7.IsWhole) (arg8 : Memref sig .tc .vmem S1x256x6144 .fp8e4m3) (harg8 : arg8.IsWhole) (arg9 : Memref sig .tc .vmem S1x1x256 .f32) (harg9 : arg9.IsWhole) (arg10 : Memref sig .tc .vmem S256x128 .f32) (harg10 : arg10.IsWhole)
    (x0 : Vec F S12288x128 .bf16) (x1 : Vec F S6144x3072 .fp8e4m3) (x2 : Vec F S1x3072 .f32) (x3 : Vec F S1x3072 .f32) (x4 : Vec F S256x3072 .bf16) (y : S1x256x6144.Idx) :
    ∃ pc ∈ (kernelRun0_A c i arg2 harg2 arg3 harg3 arg4 harg4 arg5 harg5 arg6 harg6 arg7 harg7 arg8 harg8 arg9 harg9 arg10 harg10 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 x0 x1 x2 x3 x4).2.1 S1x32x128.size (by sl_kernel_rfl) y

/-- What the run leaves in output 6's staging buffer: its pieces read back over junk. -/
def out0_A_6 (c : Dev nD) (i : grid0.Coords) (arg2 : Memref sig .tc .vmem S12288x128 .bf16) (harg2 : arg2.IsWhole) (arg3 : Memref sig .tc .vmem S6144x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S256x3072 .bf16) (harg6 : arg6.IsWhole) (arg7 : Memref sig .tc .vmem S1x256x3072 .bf16) (harg7 : arg7.IsWhole) (arg8 : Memref sig .tc .vmem S1x256x6144 .fp8e4m3) (harg8 : arg8.IsWhole) (arg9 : Memref sig .tc .vmem S1x1x256 .f32) (harg9 : arg9.IsWhole) (arg10 : Memref sig .tc .vmem S256x128 .f32) (harg10 : arg10.IsWhole)
    (x0 : Vec F S12288x128 .bf16) (x1 : Vec F S6144x3072 .fp8e4m3) (x2 : Vec F S1x3072 .f32) (x3 : Vec F S1x3072 .f32) (x4 : Vec F S256x3072 .bf16) : Vec F S1x256x6144 .fp8e4m3 :=
  VO0_6.read (Elt F) (VO0_6.writes (Elt F) VO0_6.junk (kernelRun0_A c i arg2 harg2 arg3 harg3 arg4 harg4 arg5 harg5 arg6 harg6 arg7 harg7 arg8 harg8 arg9 harg9 arg10 harg10 x0 x1 x2 x3 x4).2.1)

/-- The run's pieces for output 7 tile its block (1 store of `S1x1x256`, checked by the kernel's evaluation: Lib/Ring.lean `Piece.tiledL`, linear in the pieces, through a loop's `@[irreducible]` trip theorem too), so they cover it. -/
theorem cover0_A_7 (c : Dev nD) (i : grid0.Coords) (arg2 : Memref sig .tc .vmem S12288x128 .bf16) (harg2 : arg2.IsWhole) (arg3 : Memref sig .tc .vmem S6144x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S256x3072 .bf16) (harg6 : arg6.IsWhole) (arg7 : Memref sig .tc .vmem S1x256x3072 .bf16) (harg7 : arg7.IsWhole) (arg8 : Memref sig .tc .vmem S1x256x6144 .fp8e4m3) (harg8 : arg8.IsWhole) (arg9 : Memref sig .tc .vmem S1x1x256 .f32) (harg9 : arg9.IsWhole) (arg10 : Memref sig .tc .vmem S256x128 .f32) (harg10 : arg10.IsWhole)
    (x0 : Vec F S12288x128 .bf16) (x1 : Vec F S6144x3072 .fp8e4m3) (x2 : Vec F S1x3072 .f32) (x3 : Vec F S1x3072 .f32) (x4 : Vec F S256x3072 .bf16) (y : S1x1x256.Idx) :
    ∃ pc ∈ (kernelRun0_A c i arg2 harg2 arg3 harg3 arg4 harg4 arg5 harg5 arg6 harg6 arg7 harg7 arg8 harg8 arg9 harg9 arg10 harg10 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 x0 x1 x2 x3 x4).2.2.1 S1x1x256.size (by sl_kernel_rfl) y

/-- What the run leaves in output 7's staging buffer: its pieces read back over junk. -/
def out0_A_7 (c : Dev nD) (i : grid0.Coords) (arg2 : Memref sig .tc .vmem S12288x128 .bf16) (harg2 : arg2.IsWhole) (arg3 : Memref sig .tc .vmem S6144x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S256x3072 .bf16) (harg6 : arg6.IsWhole) (arg7 : Memref sig .tc .vmem S1x256x3072 .bf16) (harg7 : arg7.IsWhole) (arg8 : Memref sig .tc .vmem S1x256x6144 .fp8e4m3) (harg8 : arg8.IsWhole) (arg9 : Memref sig .tc .vmem S1x1x256 .f32) (harg9 : arg9.IsWhole) (arg10 : Memref sig .tc .vmem S256x128 .f32) (harg10 : arg10.IsWhole)
    (x0 : Vec F S12288x128 .bf16) (x1 : Vec F S6144x3072 .fp8e4m3) (x2 : Vec F S1x3072 .f32) (x3 : Vec F S1x3072 .f32) (x4 : Vec F S256x3072 .bf16) : Vec F S1x1x256 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 x0 x1 x2 x3 x4).2.2.1)

/-! ## What the outputs hold after each point -/

/-- What the outputs' staging buffers hold after the body at point `t` (as a tuple, in window order): the run's contents at
    the point's memrefs and input blocks. -/
def outsAt0 (c : Dev nD) (t : Fin cfg0.N) : Vec F S1x256x3072 .bf16 × Vec F S1x256x6144 .fp8e4m3 × Vec F S1x1x256 .f32 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t).1
    | ⟨6, _⟩ => (outsAt0 m c t).2.1
    | ⟨7, _⟩ => (outsAt0 m c t).2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t).1 := by dsimp only [dats]
theorem after0_6 (c : Dev nD) (t : Fin cfg0.N) : (dats m 0 c).after 6 t = (outsAt0 m c t).2.1 := by dsimp only [dats]
theorem after0_7 (c : Dev nD) (t : Fin cfg0.N) : (dats m 0 c).after 7 t = (outsAt0 m c t).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  unfold outsAt0
  unfold out0_A_5 out0_A_6 out0_A_7; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ (iblk m c 0 t) (iblk m c 1 t) (iblk m c 2 t) (iblk m c 3 t) (iblk m c 4 t)).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  iintro ⟨H0, H1, H2, H3, H4, ⟨%e5, H5⟩, ⟨%e6, H6⟩, ⟨%e7, H7⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _ _ _ _ _)
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _)
  unfold owns; iexists _; isplitr
  swap; · iexact H7
  ipureintro; exact View.read_writes_of_cover _ _ _ _ _ (cover0_A_7 c _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Hand

end
-- ==== Proof.VecsIdeal.lean ====
module

public import proofs.«01_k».proof.Proof.TripIdeal

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- The even channel of eight rows of words. -/
def lo (w : Vec F S8x2x128 .bf16) : FVec F S8x128 .f32 :=
  extf .f32 (shapeCast S8x128 (rowsOfParity 0 S8x1x128 w bitcasts_S8x2x128_w16_S8x1x128_w32) shapeCasts_S8x1x128_S8x128) bitsLt_bf16_f32

/-- The odd channel of eight rows of words. -/
def hi (w : Vec F S8x2x128 .bf16) : FVec F S8x128 .f32 :=
  extf .f32 (shapeCast S8x128 (rowsOfParity 1 S8x1x128 w bitcasts_S8x2x128_w16_S8x1x128_w32) shapeCasts_S8x1x128_S8x128) bitsLt_bf16_f32

/-- The larger magnitude of the two channels. -/
def pairMax (w : Vec F S8x2x128 .bf16) : FVec F S8x128 .f32 := maximumf (absf (lo w)) (absf (hi w))

/-- The largest magnitude over the words up to `n`. -/
def mxTo (w : Fin 24 → Vec F S8x2x128 .bf16) : (n : ℕ) → n < 24 → FVec F S8x128 .f32
  | 0, h => pairMax (w ⟨0, h⟩)
  | n + 1, h => maximumf (mxTo w n (Nat.lt_of_succ_lt h)) (pairMax (w ⟨n + 1, h⟩))

/-- The row maximum, in every lane. -/
def amaxV (w : Fin 24 → Vec F S8x2x128 .bf16) : FVec F S8x128 .f32 :=
  broadcastTo S8x128 (shapeCast S8x1 (shapeCast S8x1 (multiReduction .maximumf [1] S8 (mxTo w 23 (by decide)) 0xFF800000#32 reduces_S8x128_S8 (.inl rfl) rfl) shapeCasts_S8_S8x1) shapeCasts_S8x1_S8x1) broadcasts_S8x1_S8x128

/-- One step of the search for the exponent field. -/
def probe (r : FVec F S8x128 .f32) (f : IVec S8x128 32) (s : BitVec 32) : IVec S8x128 32 :=
  select (cmpf .oge r (bitcastToFloat .f32 (shli (addi f (broadcast S8x128 s)) (broadcast S8x128 23#32)))) (addi f (broadcast S8x128 s)) f

/-- The exponent field found by the search. -/
def fieldV (r : FVec F S8x128 .f32) : IVec S8x128 32 :=
  probe r (probe r (probe r (probe r (probe r (probe r (probe r (probe r (broadcast S8x128 0#32) 128#32) 64#32) 32#32) 16#32) 8#32) 4#32) 2#32) 1#32

/-- The exponent of the scale. -/
def expoOf (a : FVec F S8x128 .f32) (f : IVec S8x128 32) : IVec S8x128 32 :=
  select (cmpf .oeq a (broadcast S8x128 (Scalar.ofBits .f32 0x00000000#32))) (broadcast S8x128 0#32)
    (select (ori (cmpi .eq f (broadcast S8x128 0#32)) (cmpi .eq f (broadcast S8x128 255#32))) (broadcast S8x128 0#32) (subi f (broadcast S8x128 126#32)))

/-- The exponent of the scale, from the row maximum. -/
def expoV (a : FVec F S8x128 .f32) : IVec S8x128 32 :=
  expoOf a (fieldV (mulf a (broadcast S8x128 (Scalar.ofBits .f32 0x3B124925#32))))

/-- The scale, from its exponent. -/
def scaleV (e : IVec S8x128 32) : FVec F S8x128 .f32 :=
  bitcastToFloat .f32 (shli (addi e (broadcast S8x128 127#32)) (broadcast S8x128 23#32))

/-- The inverse of the scale, from its exponent. -/
def invV (e : IVec S8x128 32) : FVec F S8x128 .f32 :=
  bitcastToFloat .f32 (shli (subi (broadcast S8x128 127#32) e) (broadcast S8x128 23#32))

/-- A channel times the inverse of the scale, clipped. -/
def clipped (h v : FVec F S8x128 .f32) : FVec F S8x128 .f32 :=
  minimumf (broadcast S8x128 (Scalar.ofBits .f32 0x43E00000#32)) (maximumf (broadcast S8x128 (Scalar.ofBits .f32 0xC3E00000#32)) (mulf h v))

/-- Thirty-two rows of codes from four groups of eight. -/
def codesOf (h0 h1 h2 h3 : FVec F S8x128 .f32) : FVec F S1x32x128 .fp8e4m3 :=
  shapeCast S1x32x128 (truncf .fp8e4m3 (concatenate S32x128 0 [⟨S8x128, h0⟩, ⟨S8x128, h1⟩, ⟨S8x128, h2⟩, ⟨S8x128, h3⟩] concatenates_S8x128_S8x128_S8x128_S8x128_S32x128_d0) bitsLt_fp8e4m3_f32) shapeCasts_S32x128_S1x32x128

/-- Word row `r` of the eight rows of group `q` of trip `k`, as the search for the maximum loads it. -/
def raw (arg2 : Memref sig .tc .vmem S12288x128 .bf16) (harg2 : arg2.IsWhole) (X : BufTy.Contents (Elt F) arg2.view.ty) (k : Fin k0_t1_loop.trips) (q : Fin 4) (r : Fin 24) : Vec F S8x2x128 .bf16 :=
  (arg2.reshape S6144x2x128 reshapes_S12288x128_S6144x2x128.1 reshapes_S12288x128_S6144x2x128.2 harg2.contiguous).view.readAt (Elt F)
    ⟨k0_off1 k (BitVec.ofNat 32 (8 * q.val)) (BitVec.ofNat 32 r.val), S8x2x128.size, ![24, 1, 1], k0_off1_inb k q r⟩ X

/-- Word `4 j + p` of the eight rows of group `q` of trip `k`, as the quantisation loads it. -/
def raw3 (arg2 : Memref sig .tc .vmem S12288x128 .bf16) (harg2 : arg2.IsWhole) (X : BufTy.Contents (Elt F) arg2.view.ty) (k : Fin k0_t1_loop.trips) (q : Fin 4) (j : Fin 6) (p : Fin 4) : Vec F S8x2x128 .bf16 :=
  (arg2.reshape S6144x2x128 reshapes_S12288x128_S6144x2x128.1 reshapes_S12288x128_S6144x2x128.2 harg2.contiguous).view.readAt (Elt F)
    ⟨k0_off3 k (BitVec.ofNat 32 (8 * q.val)) (BitVec.ofNat 32 (4 * j.val)) (BitVec.ofNat 32 p.val), S8x2x128.size, ![24, 1, 1], k0_off3_inb k q j p⟩ X

/-- The exponent of the eight rows of group `q` of trip `k`. -/
def expoAt (arg2 : Memref sig .tc .vmem S12288x128 .bf16) (harg2 : arg2.IsWhole) (X : BufTy.Contents (Elt F) arg2.view.ty) (k : Fin k0_t1_loop.trips) (q : Fin 4) : IVec S8x128 32 := expoV (F := F) (amaxV (raw arg2 harg2 X k q))

/-- The codes of channel `2 p` in lane group `j` of trip `k`. -/
def loCodes (arg2 : Memref sig .tc .vmem S12288x128 .bf16) (harg2 : arg2.IsWhole) (X : BufTy.Contents (Elt F) arg2.view.ty) (k : Fin k0_t1_loop.trips) (j : Fin 6) (p : Fin 4) : FVec F S1x32x128 .fp8e4m3 :=
  codesOf (clipped (lo (raw3 arg2 harg2 X k 0 j p)) (invV (expoAt arg2 harg2 X k 0))) (clipped (lo (raw3 arg2 harg2 X k 1 j p)) (invV (expoAt arg2 harg2 X k 1)))
    (clipped (lo (raw3 arg2 harg2 X k 2 j p)) (invV (expoAt arg2 harg2 X k 2))) (clipped (lo (raw3 arg2 harg2 X k 3 j p)) (invV (expoAt arg2 harg2 X k 3)))

/-- The codes of channel `2 p + 1` in lane group `j` of trip `k`. -/
def hiCodes (arg2 : Memref sig .tc .vmem S12288x128 .bf16) (harg2 : arg2.IsWhole) (X : BufTy.Contents (Elt F) arg2.view.ty) (k : Fin k0_t1_loop.trips) (j : Fin 6) (p : Fin 4) : FVec F S1x32x128 .fp8e4m3 :=
  codesOf (clipped (hi (raw3 arg2 harg2 X k 0 j p)) (invV (expoAt arg2 harg2 X k 0))) (clipped (hi (raw3 arg2 harg2 X k 1 j p)) (invV (expoAt arg2 harg2 X k 1)))
    (clipped (hi (raw3 arg2 harg2 X k 2 j p)) (invV (expoAt arg2 harg2 X k 2))) (clipped (hi (raw3 arg2 harg2 X k 3 j p)) (invV (expoAt arg2 harg2 X k 3)))

/-- The scales of group `q` of trip `k`, as stored. -/
def scaleRows (arg2 : Memref sig .tc .vmem S12288x128 .bf16) (harg2 : arg2.IsWhole) (X : BufTy.Contents (Elt F) arg2.view.ty) (k : Fin k0_t1_loop.trips) (q : Fin 4) : FVec F S8x128 .f32 := shapeCast S8x128 (scaleV (F := F) (expoAt arg2 harg2 X k q)) shapeCasts_S8x128_S8x128

theorem inv_0 (arg2 : Memref sig .tc .vmem S12288x128 .bf16) (harg2 : arg2.IsWhole) (X : BufTy.Contents (Elt F) arg2.view.ty) (k : Fin k0_t1_loop.trips) : trip.sl.r_22 (F := F) arg2 harg2 X k = invV (expoAt arg2 harg2 X k 0) := by
  rfl

theorem inv_1 (arg2 : Memref sig .tc .vmem S12288x128 .bf16) (harg2 : arg2.IsWhole) (X : BufTy.Contents (Elt F) arg2.view.ty) (k : Fin k0_t1_loop.trips) : trip.sl.r_44 (F := F) arg2 harg2 X k = invV (expoAt arg2 harg2 X k 1) := by
  rfl

theorem inv_2 (arg2 : Memref sig .tc .vmem S12288x128 .bf16) (harg2 : arg2.IsWhole) (X : BufTy.Contents (Elt F) arg2.view.ty) (k : Fin k0_t1_loop.trips) : trip.sl.r_67 (F := F) arg2 harg2 X k = invV (expoAt arg2 harg2 X k 2) := by
  rfl

theorem inv_3 (arg2 : Memref sig .tc .vmem S12288x128 .bf16) (harg2 : arg2.IsWhole) (X : BufTy.Contents (Elt F) arg2.view.ty) (k : Fin k0_t1_loop.trips) : trip.sl.r_93 (F := F) arg2 harg2 X k = invV (expoAt arg2 harg2 X k 3) := by
  rfl

/-- The stored scales of a trip. -/
def scalePieces (arg2 : Memref sig .tc .vmem S12288x128 .bf16) (harg2 : arg2.IsWhole) (X : BufTy.Contents (Elt F) arg2.view.ty) (k : Fin k0_t1_loop.trips) : List (View.Piece (Elt F) S256x128 .f32) :=
  [⟨Rect.unit (k0_off2 k 24#32) S8x128.size (k0_off2_inb k 3), scaleRows arg2 harg2 X k 3⟩,
   ⟨Rect.unit (k0_off2 k 16#32) S8x128.size (k0_off2_inb k 2), scaleRows arg2 harg2 X k 2⟩,
   ⟨Rect.unit (k0_off2 k 8#32) S8x128.size (k0_off2_inb k 1), scaleRows arg2 harg2 X k 1⟩,
   ⟨Rect.unit (k0_off2 k 0#32) S8x128.size (k0_off2_inb k 0), scaleRows arg2 harg2 X k 0⟩]

/-- The stored codes of a trip. -/
def codePieces (arg2 : Memref sig .tc .vmem S12288x128 .bf16) (harg2 : arg2.IsWhole) (X : BufTy.Contents (Elt F) arg2.view.ty) (k : Fin k0_t1_loop.trips) : List (View.Piece (Elt F) S1x256x6144 .fp8e4m3) :=
  [⟨Rect.unit (k0_off51 k) S1x32x128.size (k0_off51_inb k), hiCodes arg2 harg2 X k 5 3⟩,
   ⟨Rect.unit (k0_off50 k) S1x32x128.size (k0_off50_inb k), loCodes arg2 harg2 X k 5 3⟩,
   ⟨Rect.unit (k0_off49 k) S1x32x128.size (k0_off49_inb k), hiCodes arg2 harg2 X k 5 2⟩,
   ⟨Rect.unit (k0_off48 k) S1x32x128.size (k0_off48_inb k), loCodes arg2 harg2 X k 5 2⟩,
   ⟨Rect.unit (k0_off47 k) S1x32x128.size (k0_off47_inb k), hiCodes arg2 harg2 X k 5 1⟩,
   ⟨Rect.unit (k0_off46 k) S1x32x128.size (k0_off46_inb k), loCodes arg2 harg2 X k 5 1⟩,
   ⟨Rect.unit (k0_off45 k) S1x32x128.size (k0_off45_inb k), hiCodes arg2 harg2 X k 5 0⟩,
   ⟨Rect.unit (k0_off44 k) S1x32x128.size (k0_off44_inb k), loCodes arg2 harg2 X k 5 0⟩,
   ⟨Rect.unit (k0_off43 k) S1x32x128.size (k0_off43_inb k), hiCodes arg2 harg2 X k 4 3⟩,
   ⟨Rect.unit (k0_off42 k) S1x32x128.size (k0_off42_inb k), loCodes arg2 harg2 X k 4 3⟩,
   ⟨Rect.unit (k0_off41 k) S1x32x128.size (k0_off41_inb k), hiCodes arg2 harg2 X k 4 2⟩,
   ⟨Rect.unit (k0_off40 k) S1x32x128.size (k0_off40_inb k), loCodes arg2 harg2 X k 4 2⟩,
   ⟨Rect.unit (k0_off39 k) S1x32x128.size (k0_off39_inb k), hiCodes arg2 harg2 X k 4 1⟩,
   ⟨Rect.unit (k0_off38 k) S1x32x128.size (k0_off38_inb k), loCodes arg2 harg2 X k 4 1⟩,
   ⟨Rect.unit (k0_off37 k) S1x32x128.size (k0_off37_inb k), hiCodes arg2 harg2 X k 4 0⟩,
   ⟨Rect.unit (k0_off36 k) S1x32x128.size (k0_off36_inb k), loCodes arg2 harg2 X k 4 0⟩,
   ⟨Rect.unit (k0_off35 k) S1x32x128.size (k0_off35_inb k), hiCodes arg2 harg2 X k 3 3⟩,
   ⟨Rect.unit (k0_off34 k) S1x32x128.size (k0_off34_inb k), loCodes arg2 harg2 X k 3 3⟩,
   ⟨Rect.unit (k0_off33 k) S1x32x128.size (k0_off33_inb k), hiCodes arg2 harg2 X k 3 2⟩,
   ⟨Rect.unit (k0_off32 k) S1x32x128.size (k0_off32_inb k), loCodes arg2 harg2 X k 3 2⟩,
   ⟨Rect.unit (k0_off31 k) S1x32x128.size (k0_off31_inb k), hiCodes arg2 harg2 X k 3 1⟩,
   ⟨Rect.unit (k0_off30 k) S1x32x128.size (k0_off30_inb k), loCodes arg2 harg2 X k 3 1⟩,
   ⟨Rect.unit (k0_off29 k) S1x32x128.size (k0_off29_inb k), hiCodes arg2 harg2 X k 3 0⟩,
   ⟨Rect.unit (k0_off28 k) S1x32x128.size (k0_off28_inb k), loCodes arg2 harg2 X k 3 0⟩,
   ⟨Rect.unit (k0_off27 k) S1x32x128.size (k0_off27_inb k), hiCodes arg2 harg2 X k 2 3⟩,
   ⟨Rect.unit (k0_off26 k) S1x32x128.size (k0_off26_inb k), loCodes arg2 harg2 X k 2 3⟩,
   ⟨Rect.unit (k0_off25 k) S1x32x128.size (k0_off25_inb k), hiCodes arg2 harg2 X k 2 2⟩,
   ⟨Rect.unit (k0_off24 k) S1x32x128.size (k0_off24_inb k), loCodes arg2 harg2 X k 2 2⟩,
   ⟨Rect.unit (k0_off23 k) S1x32x128.size (k0_off23_inb k), hiCodes arg2 harg2 X k 2 1⟩,
   ⟨Rect.unit (k0_off22 k) S1x32x128.size (k0_off22_inb k), loCodes arg2 harg2 X k 2 1⟩,
   ⟨Rect.unit (k0_off21 k) S1x32x128.size (k0_off21_inb k), hiCodes arg2 harg2 X k 2 0⟩,
   ⟨Rect.unit (k0_off20 k) S1x32x128.size (k0_off20_inb k), loCodes arg2 harg2 X k 2 0⟩,
   ⟨Rect.unit (k0_off19 k) S1x32x128.size (k0_off19_inb k), hiCodes arg2 harg2 X k 1 3⟩,
   ⟨Rect.unit (k0_off18 k) S1x32x128.size (k0_off18_inb k), loCodes arg2 harg2 X k 1 3⟩,
   ⟨Rect.unit (k0_off17 k) S1x32x128.size (k0_off17_inb k), hiCodes arg2 harg2 X k 1 2⟩,
   ⟨Rect.unit (k0_off16 k) S1x32x128.size (k0_off16_inb k), loCodes arg2 harg2 X k 1 2⟩,
   ⟨Rect.unit (k0_off15 k) S1x32x128.size (k0_off15_inb k), hiCodes arg2 harg2 X k 1 1⟩,
   ⟨Rect.unit (k0_off14 k) S1x32x128.size (k0_off14_inb k), loCodes arg2 harg2 X k 1 1⟩,
   ⟨Rect.unit (k0_off13 k) S1x32x128.size (k0_off13_inb k), hiCodes arg2 harg2 X k 1 0⟩,
   ⟨Rect.unit (k0_off12 k) S1x32x128.size (k0_off12_inb k), loCodes arg2 harg2 X k 1 0⟩,
   ⟨Rect.unit (k0_off11 k) S1x32x128.size (k0_off11_inb k), hiCodes arg2 harg2 X k 0 3⟩,
   ⟨Rect.unit (k0_off10 k) S1x32x128.size (k0_off10_inb k), loCodes arg2 harg2 X k 0 3⟩,
   ⟨Rect.unit (k0_off9 k) S1x32x128.size (k0_off9_inb k), hiCodes arg2 harg2 X k 0 2⟩,
   ⟨Rect.unit (k0_off8 k) S1x32x128.size (k0_off8_inb k), loCodes arg2 harg2 X k 0 2⟩,
   ⟨Rect.unit (k0_off7 k) S1x32x128.size (k0_off7_inb k), hiCodes arg2 harg2 X k 0 1⟩,
   ⟨Rect.unit (k0_off6 k) S1x32x128.size (k0_off6_inb k), loCodes arg2 harg2 X k 0 1⟩,
   ⟨Rect.unit (k0_off5 k) S1x32x128.size (k0_off5_inb k), hiCodes arg2 harg2 X k 0 0⟩,
   ⟨Rect.unit (k0_off4 k) S1x32x128.size (k0_off4_inb k), loCodes arg2 harg2 X k 0 0⟩]

theorem trip_scale (𝒱 : Variants) (c : Dev nD) (bd : Option 𝒱.V) (i : grid0.Coords) (arg2 : Memref sig .tc .vmem S12288x128 .bf16) (harg2 : arg2.IsWhole) (arg3 : Memref sig .tc .vmem S6144x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S256x3072 .bf16) (harg6 : arg6.IsWhole) (arg7 : Memref sig .tc .vmem S1x256x3072 .bf16) (harg7 : arg7.IsWhole) (arg8 : Memref sig .tc .vmem S1x256x6144 .fp8e4m3) (harg8 : arg8.IsWhole) (arg9 : Memref sig .tc .vmem S1x1x256 .f32) (harg9 : arg9.IsWhole) (arg10 : Memref sig .tc .vmem S256x128 .f32) (harg10 : arg10.IsWhole) (X : BufTy.Contents (Elt F) arg2.view.ty) (k : Fin k0_t1_loop.trips) :
    (trip (F := F) 𝒱 c bd i arg2 harg2 arg3 harg3 arg4 harg4 arg5 harg5 arg6 harg6 arg7 harg7 arg8 harg8 arg9 harg9 arg10 harg10 X k).2.1 = scalePieces arg2 harg2 X k := by
  unfold trip scalePieces
  rfl

theorem trip_codes (𝒱 : Variants) (c : Dev nD) (bd : Option 𝒱.V) (i : grid0.Coords) (arg2 : Memref sig .tc .vmem S12288x128 .bf16) (harg2 : arg2.IsWhole) (arg3 : Memref sig .tc .vmem S6144x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S256x3072 .bf16) (harg6 : arg6.IsWhole) (arg7 : Memref sig .tc .vmem S1x256x3072 .bf16) (harg7 : arg7.IsWhole) (arg8 : Memref sig .tc .vmem S1x256x6144 .fp8e4m3) (harg8 : arg8.IsWhole) (arg9 : Memref sig .tc .vmem S1x1x256 .f32) (harg9 : arg9.IsWhole) (arg10 : Memref sig .tc .vmem S256x128 .f32) (harg10 : arg10.IsWhole) (X : BufTy.Contents (Elt F) arg2.view.ty) (k : Fin k0_t1_loop.trips) :
    (trip (F := F) 𝒱 c bd i arg2 harg2 arg3 harg3 arg4 harg4 arg5 harg5 arg6 harg6 arg7 harg7 arg8 harg8 arg9 harg9 arg10 harg10 X k).1 = codePieces arg2 harg2 X k := by
  unfold trip codePieces
  rfl

end Cert.KernelIdeal.Hand

end
-- ==== Proof.ValueIdeal.lean ====
module

public import proofs.«01_k».proof.Proof.VecsIdeal
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.Pointwise

/-- The magnitude of an extended real. -/
def absE (x : EReal) : EReal := max x (-x)

theorem lo_apply (w : Vec Ideal S8x2x128 .bf16) (a : Fin 8) (l : Fin 128) : lo w (ix2 a l) = w (ix3 a 0 l) := by
  pointwise [lo]

theorem hi_apply (w : Vec Ideal S8x2x128 .bf16) (a : Fin 8) (l : Fin 128) : hi w (ix2 a l) = w (ix3 a 1 l) := by
  pointwise [hi]

theorem pairMax_apply (w : Vec Ideal S8x2x128 .bf16) (a : Fin 8) (l : Fin 128) : pairMax w (ix2 a l) = max (absE (w (ix3 a 0 l))) (absE (w (ix3 a 1 l))) := by
  rw [← lo_apply w a l, ← hi_apply w a l]; rfl

section
variable {F : FTy → Type} [FloatOps F]

/-- The exponent of the scale as a function of the row maximum alone. -/
def expoS (a : F .f32) : BitVec 32 := expoV (F := F) (fun _ => a) (ix2 0 0)

/-- The scale with exponent `e`. -/
def scaleS (e : BitVec 32) : F .f32 := scaleV (F := F) (fun _ => e) (ix2 0 0)

/-- The inverse of the scale with exponent `e`. -/
def invS (e : BitVec 32) : F .f32 := invV (F := F) (fun _ => e) (ix2 0 0)

/-- A code before rounding, from the value and the inverse of the scale. -/
def clipS (h v : F .f32) : F .f32 := clipped (F := F) (fun _ => h) (fun _ => v) (ix2 0 0)

theorem expoV_apply (a : FVec F S8x128 .f32) (i : S8x128.Idx) : expoV a i = expoS (a i) := by
  unfold expoS expoV expoOf fieldV
  pointwise [probe]
theorem scaleV_apply (e : IVec S8x128 32) (i : S8x128.Idx) : scaleV (F := F) e i = scaleS (e i) := by unfold scaleS scaleV; pointwise
theorem invV_apply (e : IVec S8x128 32) (i : S8x128.Idx) : invV (F := F) e i = invS (e i) := by unfold invS invV; pointwise
theorem clipped_apply (h v : FVec F S8x128 .f32) (i : S8x128.Idx) : clipped h v i = clipS (h i) (v i) := by unfold clipS clipped; pointwise
end

theorem mxTo_le (w : Fin 24 → Vec Ideal S8x2x128 .bf16) (a : Fin 8) (l : Fin 128) (c : EReal) (n : ℕ) (h : n < 24) :
    (mxTo w n h (ix2 a l) : EReal) ≤ c ↔ ∀ r : Fin 24, r.val ≤ n → ∀ e : Fin 2, absE (w r (ix3 a e l)) ≤ c := by
  induction n with
  | zero =>
    have : mxTo w 0 h (ix2 a l) = max (absE (w ⟨0, h⟩ (ix3 a 0 l))) (absE (w ⟨0, h⟩ (ix3 a 1 l))) := pairMax_apply _ a l
    rw [this, max_le_iff]
    constructor
    · rintro ⟨h0, h1⟩ r hr e
      obtain rfl : r = ⟨0, h⟩ := Fin.ext (by simpa using hr)
      fin_cases e
      · exact h0
      · exact h1
    · intro hh; exact ⟨hh _ le_rfl 0, hh _ le_rfl 1⟩
  | succ n ih =>
    have : mxTo w (n + 1) h (ix2 a l) = max (mxTo w n (Nat.lt_of_succ_lt h) (ix2 a l) : EReal) (max (absE (w ⟨n + 1, h⟩ (ix3 a 0 l))) (absE (w ⟨n + 1, h⟩ (ix3 a 1 l)))) := by
      rw [← pairMax_apply]; rfl
    rw [this, max_le_iff, ih, max_le_iff]
    constructor
    · rintro ⟨hn, h0, h1⟩ r hr e
      rcases Nat.lt_or_ge n r.val with hlt | hge
      · obtain rfl : r = ⟨n + 1, h⟩ := Fin.ext (le_antisymm hr hlt)
        fin_cases e
        · exact h0
        · exact h1
      · exact hn r hge e
    · intro hh; exact ⟨fun r hr e => hh r (hr.trans (Nat.le_succ n)) e, hh _ le_rfl 0, hh _ le_rfl 1⟩

theorem amaxV_apply (w : Fin 24 → Vec Ideal S8x2x128 .bf16) (a : Fin 8) (l : Fin 128) :
    amaxV w (ix2 a l) = (Finset.univ : Finset (Fin 128)).fold max (Ideal.ofBits .f32 0xFF800000#32) fun l' => mxTo w 23 (by decide) (ix2 a l') := by
  pointwise [amaxV]

section
variable (arg2 : Memref sig .tc .vmem S12288x128 .bf16) (harg2 : arg2.IsWhole) (x0 : Vec Ideal S12288x128 .bf16)

theorem word_load (n : ℕ) (off : Fin 3 → ℕ) (hoff : off = ![n, 0, 0])
    (inb : ∀ a, S8x2x128.size a = 0 ∨ off a + (![24, 1, 1] : Fin 3 → ℕ) a * (S8x2x128.size a - 1) < S6144x2x128.size a)
    (a : Fin 8) (e : Fin 2) (l : Fin 128) (hn : 2 * (n + 24 * a.val) + e.val < 12288) :
    (arg2.reshape S6144x2x128 reshapes_S12288x128_S6144x2x128.1 reshapes_S12288x128_S6144x2x128.2 harg2.contiguous).view.readAt (Elt Ideal)
      ⟨off, S8x2x128.size, ![24, 1, 1], inb⟩ (harg2.unread x0) (ix3 a e l) = x0 (ix2 ⟨2 * (n + 24 * a.val) + e.val, hn⟩ l) := by
  subst hoff
  refine (congrFun (harg2.read_unread x0) _).trans (congrArg x0 ?_)
  have h1 : (LoadRect.mk (s := S6144x2x128) ![n, 0, 0] S8x2x128.size ![24, 1, 1] inb).idx (ix3 a e l)
      = ix3 (⟨n + 24 * a.val, by omega⟩ : Fin 6144) e l := by
    funext b
    match b with
    | ⟨0, _⟩ => exact Fin.ext rfl
    | ⟨1, _⟩ => exact Fin.ext (by show 0 + 1 * e.val = e.val; omega)
    | ⟨2, _⟩ => exact Fin.ext (by show 0 + 1 * l.val = l.val; omega)
  show Shape.reshapeEquiv _ ((LoadRect.mk (s := S6144x2x128) ![n, 0, 0] S8x2x128.size ![24, 1, 1] inb).idx (ix3 a e l)) = _
  rw [h1]
  pointwise
  congr 2
  omega

/-- Row `r` of the forty-eight rows of channel values of token `t` of a block. -/
def tokenAt (t : Fin 256) (r : Fin 48) (l : Fin 128) : EReal := x0 (ix2 ⟨48 * t.val + r.val, by omega⟩ l)

/-- The largest magnitude of token `t` of a block. -/
def blockMax (t : Fin 256) : EReal := (Finset.univ : Finset (Fin 48 × Fin 128)).sup fun p => absE (tokenAt x0 t p.1 p.2)

/-- Token `a` of group `q` of trip `k`. -/
def tok (k : Fin k0_t1_loop.trips) (q : Fin 4) (a : Fin 8) : Fin 256 :=
  ⟨32 * k.val + 8 * q.val + a.val, by have : k.val < 8 := Nat.lt_of_lt_of_le k.isLt k0_t1_abs.2.1; omega⟩

variable (k : Fin k0_t1_loop.trips)

theorem raw_apply (q : Fin 4) (r : Fin 24) (a : Fin 8) (e : Fin 2) (l : Fin 128) :
    raw arg2 harg2 (harg2.unread x0) k q r (ix3 a e l) = tokenAt x0 (tok k q a) ⟨2 * r.val + e.val, by omega⟩ l := by
  have hk : k.val < 8 := Nat.lt_of_lt_of_le k.isLt k0_t1_abs.2.1
  unfold raw
  rw [word_load arg2 harg2 x0 (768 * k.val + 192 * q.val + r.val) _ (k0_off1_eq k q r) _ a e l (by omega)]
  unfold tokenAt tok
  congr 3
  simp only
  omega

theorem raw3_apply (q : Fin 4) (j : Fin 6) (p : Fin 4) (a : Fin 8) (e : Fin 2) (l : Fin 128) :
    raw3 arg2 harg2 (harg2.unread x0) k q j p (ix3 a e l) = tokenAt x0 (tok k q a) ⟨8 * j.val + 2 * p.val + e.val, by omega⟩ l := by
  have hk : k.val < 8 := Nat.lt_of_lt_of_le k.isLt k0_t1_abs.2.1
  unfold raw3
  rw [word_load arg2 harg2 x0 (768 * k.val + 192 * q.val + 4 * j.val + p.val) _ (k0_off3_eq k q j p) _ a e l (by omega)]
  unfold tokenAt tok
  congr 3
  simp only
  omega

theorem negInf : Ideal.ofBits .f32 0xFF800000#32 = (⊥ : EReal) := by
  simp [Ideal.ofBits, Ideal.ieee]

theorem amax_raw (q : Fin 4) (a : Fin 8) (l : Fin 128) :
    amaxV (raw arg2 harg2 (harg2.unread x0) k q) (ix2 a l) = blockMax x0 (tok k q a) := by
  rw [amaxV_apply]
  refine eq_of_forall_ge_iff fun c => ?_
  rw [Finset.fold_max_le, negInf, blockMax, Finset.sup_le_iff]
  simp only [bot_le, true_and, mxTo_le, Finset.mem_univ, true_implies]
  constructor
  · rintro h ⟨r, l'⟩
    have := h l' ⟨r.val / 2, by omega⟩ (by simp only; omega) ⟨r.val % 2, by omega⟩
    rw [raw_apply] at this
    have e : (⟨2 * (r.val / 2) + r.val % 2, by omega⟩ : Fin 48) = r := Fin.ext (by simp only; omega)
    simpa only [e] using this
  · intro h l' r _ e
    rw [raw_apply]
    exact h (_, l')

end

end Cert.KernelIdeal.Hand

end
-- ==== Proof.BlockIdeal.lean ====
module

public import proofs.«01_k».proof.Proof.ValueIdeal
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.Pointwise

section
variable (arg2 : Memref sig .tc .vmem S12288x128 .bf16) (harg2 : arg2.IsWhole) (x0 : Vec Ideal S12288x128 .bf16)

/-- The inverse scale of token `t` of a block. -/
def invAt (t : Fin 256) : EReal := invS (F := Ideal) (expoS (F := Ideal) (blockMax x0 t))

/-- The codes of a block. -/
def codeG : S1x256x6144.Idx → EReal := fun y =>
  clipS (F := Ideal) (tokenAt x0 (y 1) ⟨8 * ((y 2).val % 768 / 128) + (y 2).val / 768, by have : (y 2).val < 6144 := (y 2).isLt; omega⟩ ⟨(y 2).val % 128, Nat.mod_lt _ (by omega)⟩)
    (invAt x0 (y 1))

/-- The scales of a block, in every lane. -/
def scaleG : S256x128.Idx → EReal := fun y => scaleS (F := Ideal) (expoS (F := Ideal) (blockMax x0 (y 0)))

theorem codesOf_apply (h0 h1 h2 h3 : FVec Ideal S8x128 .f32) (g : Fin 32 → Fin 128 → EReal)
    (e0 : ∀ (a : Fin 8) l, h0 (ix2 a l) = g ⟨a.val, by omega⟩ l) (e1 : ∀ (a : Fin 8) l, h1 (ix2 a l) = g ⟨8 + a.val, by omega⟩ l)
    (e2 : ∀ (a : Fin 8) l, h2 (ix2 a l) = g ⟨16 + a.val, by omega⟩ l) (e3 : ∀ (a : Fin 8) l, h3 (ix2 a l) = g ⟨24 + a.val, by omega⟩ l)
    (z : Fin 1) (a : Fin 32) (l : Fin 128) : codesOf h0 h1 h2 h3 (ix3 z a l) = g a l := by
  pointwise [codesOf]
  simp only [e0, e1, e2, e3]
  split_ifs <;> congr 1 <;> ext <;> simp only <;> omega

variable (k : Fin k0_t1_loop.trips)

theorem expoAt_apply (q : Fin 4) (a : Fin 8) (l : Fin 128) :
    expoAt arg2 harg2 (harg2.unread x0) k q (ix2 a l) = expoS (F := Ideal) (blockMax x0 (tok k q a)) := by
  unfold expoAt
  rw [expoV_apply, amax_raw]

theorem lo_clipped (q : Fin 4) (j : Fin 6) (p : Fin 4) (a : Fin 8) (l : Fin 128) :
    clipped (lo (raw3 arg2 harg2 (harg2.unread x0) k q j p)) (invV (expoAt arg2 harg2 (harg2.unread x0) k q)) (ix2 a l)
      = clipS (F := Ideal) (tokenAt x0 (tok k q a) ⟨8 * j.val + 2 * p.val + 0, by omega⟩ l) (invAt x0 (tok k q a)) := by
  rw [clipped_apply, lo_apply, raw3_apply, invV_apply, expoAt_apply]; rfl

theorem hi_clipped (q : Fin 4) (j : Fin 6) (p : Fin 4) (a : Fin 8) (l : Fin 128) :
    clipped (hi (raw3 arg2 harg2 (harg2.unread x0) k q j p)) (invV (expoAt arg2 harg2 (harg2.unread x0) k q)) (ix2 a l)
      = clipS (F := Ideal) (tokenAt x0 (tok k q a) ⟨8 * j.val + 2 * p.val + 1, by omega⟩ l) (invAt x0 (tok k q a)) := by
  rw [clipped_apply, hi_apply, raw3_apply, invV_apply, expoAt_apply]; rfl

/-- Token `a` of trip `k`. -/
def tok32 (a : Fin 32) : Fin 256 :=
  ⟨32 * k.val + a.val, by have : k.val < 8 := Nat.lt_of_lt_of_le k.isLt k0_t1_abs.2.1; omega⟩

theorem tok_eq (q : Fin 4) (a : Fin 8) (a' : Fin 32) (h : a'.val = 8 * q.val + a.val) : tok k q a = tok32 k a' :=
  Fin.ext (by simp only [tok, tok32]; omega)

theorem loCodes_apply (j : Fin 6) (p : Fin 4) (z : Fin 1) (a : Fin 32) (l : Fin 128) :
    loCodes arg2 harg2 (harg2.unread x0) k j p (ix3 z a l)
      = clipS (F := Ideal) (tokenAt x0 (tok32 k a) ⟨8 * j.val + 2 * p.val + 0, by omega⟩ l) (invAt x0 (tok32 k a)) := by
  refine codesOf_apply _ _ _ _ (fun a l => clipS (F := Ideal) (tokenAt x0 (tok32 k a) ⟨8 * j.val + 2 * p.val + 0, by omega⟩ l) (invAt x0 (tok32 k a))) ?_ ?_ ?_ ?_ z a l <;> intro a l <;> rw [lo_clipped]
  · rw [tok_eq k 0 a ⟨a.val, by omega⟩ (by show a.val = 8 * 0 + a.val; omega)]
  · rw [tok_eq k 1 a ⟨8 + a.val, by omega⟩ (by show 8 + a.val = 8 * 1 + a.val; omega)]
  · rw [tok_eq k 2 a ⟨16 + a.val, by omega⟩ (by show 16 + a.val = 8 * 2 + a.val; omega)]
  · rw [tok_eq k 3 a ⟨24 + a.val, by omega⟩ (by show 24 + a.val = 8 * 3 + a.val; omega)]

theorem hiCodes_apply (j : Fin 6) (p : Fin 4) (z : Fin 1) (a : Fin 32) (l : Fin 128) :
    hiCodes arg2 harg2 (harg2.unread x0) k j p (ix3 z a l)
      = clipS (F := Ideal) (tokenAt x0 (tok32 k a) ⟨8 * j.val + 2 * p.val + 1, by omega⟩ l) (invAt x0 (tok32 k a)) := by
  refine codesOf_apply _ _ _ _ (fun a l => clipS (F := Ideal) (tokenAt x0 (tok32 k a) ⟨8 * j.val + 2 * p.val + 1, by omega⟩ l) (invAt x0 (tok32 k a))) ?_ ?_ ?_ ?_ z a l <;> intro a l <;> rw [hi_clipped]
  · rw [tok_eq k 0 a ⟨a.val, by omega⟩ (by show a.val = 8 * 0 + a.val; omega)]
  · rw [tok_eq k 1 a ⟨8 + a.val, by omega⟩ (by show 8 + a.val = 8 * 1 + a.val; omega)]
  · rw [tok_eq k 2 a ⟨16 + a.val, by omega⟩ (by show 16 + a.val = 8 * 2 + a.val; omega)]
  · rw [tok_eq k 3 a ⟨24 + a.val, by omega⟩ (by show 24 + a.val = 8 * 3 + a.val; omega)]

theorem code_piece (n : ℕ) (e : ℕ) (he : e < 2) (j : Fin 6) (p : Fin 4) (off : Fin 3 → ℕ) (hn : n = (2 * p.val + e) * 768 + 128 * j.val)
    (hoff : off = ![0, 32 * k.val, n]) (inb : ∀ a, off a + S1x32x128.size a ≤ S1x256x6144.size a)
    (f : FVec Ideal S1x32x128 .fp8e4m3)
    (hf : ∀ (z : Fin 1) (a : Fin 32) (l : Fin 128), f (ix3 z a l) = clipS (F := Ideal) (tokenAt x0 (tok32 k a) ⟨8 * j.val + 2 * p.val + e, by omega⟩ l) (invAt x0 (tok32 k a)))
    (x : S1x32x128.Idx) : f x = codeG x0 ((Rect.unit (s := S1x256x6144) off S1x32x128.size inb).emb x) := by
  subst hoff
  obtain ⟨z, a, l, rfl⟩ : ∃ (z : Fin 1) (a : Fin 32) (l : Fin 128), x = ix3 z a l := ⟨x 0, x 1, x 2, eq_ix3 x⟩
  have hk : k.val < 8 := Nat.lt_of_lt_of_le k.isLt k0_t1_abs.2.1
  rw [hf]
  have h1 : (((Rect.unit (s := S1x256x6144) ![0, 32 * k.val, n] S1x32x128.size inb).emb (ix3 z a l)) 1).val = 32 * k.val + a.val := by
    show 32 * k.val + 1 * a.val = _; omega
  have h2 : (((Rect.unit (s := S1x256x6144) ![0, 32 * k.val, n] S1x32x128.size inb).emb (ix3 z a l)) 2).val = n + l.val := by
    show n + 1 * l.val = _; omega
  generalize (Rect.unit (s := S1x256x6144) ![0, 32 * k.val, n] S1x32x128.size inb).emb (ix3 z a l) = y at h1 h2
  have e1 : y 1 = tok32 k a := Fin.ext h1
  unfold codeG
  rw [e1]
  congr 2
  · refine Fin.ext ?_
    show _ = 8 * ((y 2).val % 768 / 128) + (y 2).val / 768
    rw [h2]; simp only; omega
  · refine Fin.ext ?_
    show _ = (y 2).val % 128
    rw [h2]; omega

end

end Cert.KernelIdeal.Hand

end
-- ==== Proof.PiecesIdeal.lean ====
module

public import proofs.«01_k».proof.Proof.BlockIdeal
public import proofs.«01_k».proof.Proof.FrameIdeal
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.Pointwise

section
variable (arg2 : Memref sig .tc .vmem S12288x128 .bf16) (harg2 : arg2.IsWhole) (x0 : Vec Ideal S12288x128 .bf16) (k : Fin k0_t1_loop.trips)

/-- Every store of codes of a trip writes the block's codes. -/
theorem codePieces_agree : ∀ p ∈ codePieces arg2 harg2 (harg2.unread x0) k, ∀ x, p.2 x = codeG x0 (p.1.emb x) := by
  unfold codePieces
  simp only [List.forall_mem_cons]
  exact ⟨code_piece x0 k 6016 1 (by decide) 5 3 _ (by decide) (k0_off51_eq k) (k0_off51_inb k) _ (hiCodes_apply arg2 harg2 x0 k 5 3),
    code_piece x0 k 5248 0 (by decide) 5 3 _ (by decide) (k0_off50_eq k) (k0_off50_inb k) _ (loCodes_apply arg2 harg2 x0 k 5 3),
    code_piece x0 k 4480 1 (by decide) 5 2 _ (by decide) (k0_off49_eq k) (k0_off49_inb k) _ (hiCodes_apply arg2 harg2 x0 k 5 2),
    code_piece x0 k 3712 0 (by decide) 5 2 _ (by decide) (k0_off48_eq k) (k0_off48_inb k) _ (loCodes_apply arg2 harg2 x0 k 5 2),
    code_piece x0 k 2944 1 (by decide) 5 1 _ (by decide) (k0_off47_eq k) (k0_off47_inb k) _ (hiCodes_apply arg2 harg2 x0 k 5 1),
    code_piece x0 k 2176 0 (by decide) 5 1 _ (by decide) (k0_off46_eq k) (k0_off46_inb k) _ (loCodes_apply arg2 harg2 x0 k 5 1),
    code_piece x0 k 1408 1 (by decide) 5 0 _ (by decide) (k0_off45_eq k) (k0_off45_inb k) _ (hiCodes_apply arg2 harg2 x0 k 5 0),
    code_piece x0 k 640 0 (by decide) 5 0 _ (by decide) (k0_off44_eq k) (k0_off44_inb k) _ (loCodes_apply arg2 harg2 x0 k 5 0),
    code_piece x0 k 5888 1 (by decide) 4 3 _ (by decide) (k0_off43_eq k) (k0_off43_inb k) _ (hiCodes_apply arg2 harg2 x0 k 4 3),
    code_piece x0 k 5120 0 (by decide) 4 3 _ (by decide) (k0_off42_eq k) (k0_off42_inb k) _ (loCodes_apply arg2 harg2 x0 k 4 3),
    code_piece x0 k 4352 1 (by decide) 4 2 _ (by decide) (k0_off41_eq k) (k0_off41_inb k) _ (hiCodes_apply arg2 harg2 x0 k 4 2),
    code_piece x0 k 3584 0 (by decide) 4 2 _ (by decide) (k0_off40_eq k) (k0_off40_inb k) _ (loCodes_apply arg2 harg2 x0 k 4 2),
    code_piece x0 k 2816 1 (by decide) 4 1 _ (by decide) (k0_off39_eq k) (k0_off39_inb k) _ (hiCodes_apply arg2 harg2 x0 k 4 1),
    code_piece x0 k 2048 0 (by decide) 4 1 _ (by decide) (k0_off38_eq k) (k0_off38_inb k) _ (loCodes_apply arg2 harg2 x0 k 4 1),
    code_piece x0 k 1280 1 (by decide) 4 0 _ (by decide) (k0_off37_eq k) (k0_off37_inb k) _ (hiCodes_apply arg2 harg2 x0 k 4 0),
    code_piece x0 k 512 0 (by decide) 4 0 _ (by decide) (k0_off36_eq k) (k0_off36_inb k) _ (loCodes_apply arg2 harg2 x0 k 4 0),
    code_piece x0 k 5760 1 (by decide) 3 3 _ (by decide) (k0_off35_eq k) (k0_off35_inb k) _ (hiCodes_apply arg2 harg2 x0 k 3 3),
    code_piece x0 k 4992 0 (by decide) 3 3 _ (by decide) (k0_off34_eq k) (k0_off34_inb k) _ (loCodes_apply arg2 harg2 x0 k 3 3),
    code_piece x0 k 4224 1 (by decide) 3 2 _ (by decide) (k0_off33_eq k) (k0_off33_inb k) _ (hiCodes_apply arg2 harg2 x0 k 3 2),
    code_piece x0 k 3456 0 (by decide) 3 2 _ (by decide) (k0_off32_eq k) (k0_off32_inb k) _ (loCodes_apply arg2 harg2 x0 k 3 2),
    code_piece x0 k 2688 1 (by decide) 3 1 _ (by decide) (k0_off31_eq k) (k0_off31_inb k) _ (hiCodes_apply arg2 harg2 x0 k 3 1),
    code_piece x0 k 1920 0 (by decide) 3 1 _ (by decide) (k0_off30_eq k) (k0_off30_inb k) _ (loCodes_apply arg2 harg2 x0 k 3 1),
    code_piece x0 k 1152 1 (by decide) 3 0 _ (by decide) (k0_off29_eq k) (k0_off29_inb k) _ (hiCodes_apply arg2 harg2 x0 k 3 0),
    code_piece x0 k 384 0 (by decide) 3 0 _ (by decide) (k0_off28_eq k) (k0_off28_inb k) _ (loCodes_apply arg2 harg2 x0 k 3 0),
    code_piece x0 k 5632 1 (by decide) 2 3 _ (by decide) (k0_off27_eq k) (k0_off27_inb k) _ (hiCodes_apply arg2 harg2 x0 k 2 3),
    code_piece x0 k 4864 0 (by decide) 2 3 _ (by decide) (k0_off26_eq k) (k0_off26_inb k) _ (loCodes_apply arg2 harg2 x0 k 2 3),
    code_piece x0 k 4096 1 (by decide) 2 2 _ (by decide) (k0_off25_eq k) (k0_off25_inb k) _ (hiCodes_apply arg2 harg2 x0 k 2 2),
    code_piece x0 k 3328 0 (by decide) 2 2 _ (by decide) (k0_off24_eq k) (k0_off24_inb k) _ (loCodes_apply arg2 harg2 x0 k 2 2),
    code_piece x0 k 2560 1 (by decide) 2 1 _ (by decide) (k0_off23_eq k) (k0_off23_inb k) _ (hiCodes_apply arg2 harg2 x0 k 2 1),
    code_piece x0 k 1792 0 (by decide) 2 1 _ (by decide) (k0_off22_eq k) (k0_off22_inb k) _ (loCodes_apply arg2 harg2 x0 k 2 1),
    code_piece x0 k 1024 1 (by decide) 2 0 _ (by decide) (k0_off21_eq k) (k0_off21_inb k) _ (hiCodes_apply arg2 harg2 x0 k 2 0),
    code_piece x0 k 256 0 (by decide) 2 0 _ (by decide) (k0_off20_eq k) (k0_off20_inb k) _ (loCodes_apply arg2 harg2 x0 k 2 0),
    code_piece x0 k 5504 1 (by decide) 1 3 _ (by decide) (k0_off19_eq k) (k0_off19_inb k) _ (hiCodes_apply arg2 harg2 x0 k 1 3),
    code_piece x0 k 4736 0 (by decide) 1 3 _ (by decide) (k0_off18_eq k) (k0_off18_inb k) _ (loCodes_apply arg2 harg2 x0 k 1 3),
    code_piece x0 k 3968 1 (by decide) 1 2 _ (by decide) (k0_off17_eq k) (k0_off17_inb k) _ (hiCodes_apply arg2 harg2 x0 k 1 2),
    code_piece x0 k 3200 0 (by decide) 1 2 _ (by decide) (k0_off16_eq k) (k0_off16_inb k) _ (loCodes_apply arg2 harg2 x0 k 1 2),
    code_piece x0 k 2432 1 (by decide) 1 1 _ (by decide) (k0_off15_eq k) (k0_off15_inb k) _ (hiCodes_apply arg2 harg2 x0 k 1 1),
    code_piece x0 k 1664 0 (by decide) 1 1 _ (by decide) (k0_off14_eq k) (k0_off14_inb k) _ (loCodes_apply arg2 harg2 x0 k 1 1),
    code_piece x0 k 896 1 (by decide) 1 0 _ (by decide) (k0_off13_eq k) (k0_off13_inb k) _ (hiCodes_apply arg2 harg2 x0 k 1 0),
    code_piece x0 k 128 0 (by decide) 1 0 _ (by decide) (k0_off12_eq k) (k0_off12_inb k) _ (loCodes_apply arg2 harg2 x0 k 1 0),
    code_piece x0 k 5376 1 (by decide) 0 3 _ (by decide) (k0_off11_eq k) (k0_off11_inb k) _ (hiCodes_apply arg2 harg2 x0 k 0 3),
    code_piece x0 k 4608 0 (by decide) 0 3 _ (by decide) (k0_off10_eq k) (k0_off10_inb k) _ (loCodes_apply arg2 harg2 x0 k 0 3),
    code_piece x0 k 3840 1 (by decide) 0 2 _ (by decide) (k0_off9_eq k) (k0_off9_inb k) _ (hiCodes_apply arg2 harg2 x0 k 0 2),
    code_piece x0 k 3072 0 (by decide) 0 2 _ (by decide) (k0_off8_eq k) (k0_off8_inb k) _ (loCodes_apply arg2 harg2 x0 k 0 2),
    code_piece x0 k 2304 1 (by decide) 0 1 _ (by decide) (k0_off7_eq k) (k0_off7_inb k) _ (hiCodes_apply arg2 harg2 x0 k 0 1),
    code_piece x0 k 1536 0 (by decide) 0 1 _ (by decide) (k0_off6_eq k) (k0_off6_inb k) _ (loCodes_apply arg2 harg2 x0 k 0 1),
    code_piece x0 k 768 1 (by decide) 0 0 _ (by decide) (k0_off5_eq k) (k0_off5_inb k) _ (hiCodes_apply arg2 harg2 x0 k 0 0),
    code_piece x0 k 0 0 (by decide) 0 0 _ (by decide) (k0_off4_eq k) (k0_off4_inb k) _ (loCodes_apply arg2 harg2 x0 k 0 0),
    fun _ h => absurd h List.not_mem_nil⟩

theorem scaleRows_apply (q : Fin 4) (a : Fin 8) (l : Fin 128) :
    scaleRows arg2 harg2 (harg2.unread x0) k q (ix2 a l) = scaleS (F := Ideal) (expoS (F := Ideal) (blockMax x0 (tok k q a))) := by
  have : scaleRows arg2 harg2 (harg2.unread x0) k q (ix2 a l) = scaleV (F := Ideal) (expoAt arg2 harg2 (harg2.unread x0) k q) (ix2 a l) := by
    pointwise [scaleRows]
  rw [this, scaleV_apply, expoAt_apply]

theorem scale_piece (q : Fin 4) (off : Fin 2 → ℕ) (hoff : off = ![32 * k.val + 8 * q.val, 0])
    (inb : ∀ a, off a + S8x128.size a ≤ S256x128.size a) (x : S8x128.Idx) :
    scaleRows arg2 harg2 (harg2.unread x0) k q x = scaleG x0 ((Rect.unit (s := S256x128) off S8x128.size inb).emb x) := by
  subst hoff
  obtain ⟨a, l, rfl⟩ : ∃ (a : Fin 8) (l : Fin 128), x = ix2 a l := ⟨x 0, x 1, eq_ix2 x⟩
  rw [scaleRows_apply]
  unfold scaleG
  congr 3
  refine Fin.ext ?_
  show 32 * k.val + 8 * q.val + a.val = 32 * k.val + 8 * q.val + 1 * a.val
  omega

/-- Every store of scales of a trip writes the block's scales. -/
theorem scalePieces_agree : ∀ p ∈ scalePieces arg2 harg2 (harg2.unread x0) k, ∀ x, p.2 x = scaleG x0 (p.1.emb x) := by
  unfold scalePieces
  simp only [List.forall_mem_cons]
  exact ⟨scale_piece arg2 harg2 x0 k 3 _ (k0_off2_eq k 3) _, scale_piece arg2 harg2 x0 k 2 _ (k0_off2_eq k 2) _,
    scale_piece arg2 harg2 x0 k 1 _ (k0_off2_eq k 1) _, scale_piece arg2 harg2 x0 k 0 _ (k0_off2_eq k 0) _,
    fun _ h => absurd h List.not_mem_nil⟩

end

section
variable (𝒱 : Variants) (c : Dev nD) (bd : Option 𝒱.V) (i : grid0.Coords) (arg2 : Memref sig .tc .vmem S12288x128 .bf16) (harg2 : arg2.IsWhole) (arg3 : Memref sig .tc .vmem S6144x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S256x3072 .bf16) (harg6 : arg6.IsWhole) (arg7 : Memref sig .tc .vmem S1x256x3072 .bf16) (harg7 : arg7.IsWhole) (arg8 : Memref sig .tc .vmem S1x256x6144 .fp8e4m3) (harg8 : arg8.IsWhole) (arg9 : Memref sig .tc .vmem S1x1x256 .f32) (harg9 : arg9.IsWhole) (arg10 : Memref sig .tc .vmem S256x128 .f32) (harg10 : arg10.IsWhole) (x0 : Vec Ideal S12288x128 .bf16)

/-- The stores of the trips before `n` write the block's codes and scales. -/
theorem pb_agree (n : ℕ) (hn : n ≤ k0_t1_loop.trips) :
    (∀ p ∈ (pb_k0_t1 (F := Ideal) 𝒱 c bd i arg2 harg2 arg3 harg3 arg4 harg4 arg5 harg5 arg6 harg6 arg7 harg7 arg8 harg8 arg9 harg9 arg10 harg10 (harg2.unread x0) n).1, ∀ x, p.2 x = codeG x0 (p.1.emb x))
      ∧ (∀ p ∈ (pb_k0_t1 (F := Ideal) 𝒱 c bd i arg2 harg2 arg3 harg3 arg4 harg4 arg5 harg5 arg6 harg6 arg7 harg7 arg8 harg8 arg9 harg9 arg10 harg10 (harg2.unread x0) n).2, ∀ x, p.2 x = scaleG x0 (p.1.emb x)) := by
  induction n with
  | zero => exact ⟨fun _ h => absurd h List.not_mem_nil, fun _ h => absurd h List.not_mem_nil⟩
  | succ n ih =>
    have ih := ih (Nat.le_of_succ_le hn)
    have e := pb_k0_t1_succ (F := Ideal) 𝒱 c bd i arg2 harg2 arg3 harg3 arg4 harg4 arg5 harg5 arg6 harg6 arg7 harg7 arg8 harg8 arg9 harg9 arg10 harg10 (harg2.unread x0) ⟨n, hn⟩
    dsimp only at e
    rw [e]
    dsimp only
    constructor
    · intro p hp
      rcases List.mem_append.mp hp with h | h
      · rw [trip_codes] at h
        exact codePieces_agree arg2 harg2 x0 ⟨n, hn⟩ p h
      · exact ih.1 p h
    · intro p hp
      rcases List.mem_append.mp hp with h | h
      · rw [trip_scale] at h
        exact scalePieces_agree arg2 harg2 x0 ⟨n, hn⟩ p h
      · exact ih.2 p h

theorem scale_canon :
    View.canon (pb_k0_t1 (F := Ideal) 𝒱 c bd i arg2 harg2 arg3 harg3 arg4 harg4 arg5 harg5 arg6 harg6 arg7 harg7 arg8 harg8 arg9 harg9 arg10 harg10 (harg2.unread x0) (Scf.trips k0_t1_loop.lb k0_t1_loop.ub k0_t1_loop.st)).2 = scaleG x0 :=
  funext fun y => View.canon_apply_of_pieces _ _ (pb_agree 𝒱 c bd i arg2 harg2 arg3 harg3 arg4 harg4 arg5 harg5 arg6 harg6 arg7 harg7 arg8 harg8 arg9 harg9 arg10 harg10 x0 _ le_rfl).2 y
    (View.cover_of_tiledL (pb_k0_t1 (F := Ideal) 𝒱 c bd i arg2 harg2 arg3 harg3 arg4 harg4 arg5 harg5 arg6 harg6 arg7 harg7 arg8 harg8 arg9 harg9 arg10 harg10 (harg2.unread x0) (Scf.trips k0_t1_loop.lb k0_t1_loop.ub k0_t1_loop.st)).2 S8x128.size (by sl_kernel_rfl) y)

theorem code_canon :
    View.canon (pb_k0_t1 (F := Ideal) 𝒱 c bd i arg2 harg2 arg3 harg3 arg4 harg4 arg5 harg5 arg6 harg6 arg7 harg7 arg8 harg8 arg9 harg9 arg10 harg10 (harg2.unread x0) (Scf.trips k0_t1_loop.lb k0_t1_loop.ub k0_t1_loop.st)).1 = codeG x0 :=
  funext fun y => View.canon_apply_of_pieces _ _ (pb_agree 𝒱 c bd i arg2 harg2 arg3 harg3 arg4 harg4 arg5 harg5 arg6 harg6 arg7 harg7 arg8 harg8 arg9 harg9 arg10 harg10 x0 _ le_rfl).1 y
    (View.cover_of_tiledL (pb_k0_t1 (F := Ideal) 𝒱 c bd i arg2 harg2 arg3 harg3 arg4 harg4 arg5 harg5 arg6 harg6 arg7 harg7 arg8 harg8 arg9 harg9 arg10 harg10 (harg2.unread x0) (Scf.trips k0_t1_loop.lb k0_t1_loop.ub k0_t1_loop.st)).1 S1x32x128.size (by sl_kernel_rfl) y)

end

end Cert.KernelIdeal.Hand

end
-- ==== Proof.StoresIdeal.lean ====
module

public import proofs.«01_k».proof.Proof.RunIdeal

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

section
variable (c : Dev nD) (i : grid0.Coords) (arg2 : Memref sig .tc .vmem S12288x128 .bf16) (harg2 : arg2.IsWhole) (arg3 : Memref sig .tc .vmem S6144x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S256x3072 .bf16) (harg6 : arg6.IsWhole) (arg7 : Memref sig .tc .vmem S1x256x3072 .bf16) (harg7 : arg7.IsWhole) (arg8 : Memref sig .tc .vmem S1x256x6144 .fp8e4m3) (harg8 : arg8.IsWhole) (arg9 : Memref sig .tc .vmem S1x1x256 .f32) (harg9 : arg9.IsWhole) (arg10 : Memref sig .tc .vmem S256x128 .f32) (harg10 : arg10.IsWhole) (x0 : Vec F S12288x128 .bf16) (x1 : Vec F S6144x3072 .fp8e4m3) (x2 : Vec F S1x3072 .f32) (x3 : Vec F S1x3072 .f32) (x4 : Vec F S256x3072 .bf16)

theorem run_6 : (kernelRun0_A (F := F) c i arg2 harg2 arg3 harg3 arg4 harg4 arg5 harg5 arg6 harg6 arg7 harg7 arg8 harg8 arg9 harg9 arg10 harg10 x0 x1 x2 x3 x4).2.1 = (pb_k0_t1 (F := F) Variants.none c none i arg2 harg2 arg3 harg3 arg4 harg4 arg5 harg5 arg6 harg6 arg7 harg7 arg8 harg8 arg9 harg9 arg10 harg10 (harg2.unread x0) (Scf.trips k0_t1_loop.lb k0_t1_loop.ub k0_t1_loop.st)).1 := by
  unfold kernelRun0_A
  rfl

theorem run_7 : (kernelRun0_A (F := F) c i arg2 harg2 arg3 harg3 arg4 harg4 arg5 harg5 arg6 harg6 arg7 harg7 arg8 harg8 arg9 harg9 arg10 harg10 x0 x1 x2 x3 x4).2.2.1
    = [⟨Rect.unit (s := S1x1x256) ![0, 0, 0] S1x1x256.size inb_S1x1x256_S1x1x256_0_0_0,
      k0_pay365 (arg10.view.readCov (pb_k0_t1 (F := F) Variants.none c none i arg2 harg2 arg3 harg3 arg4 harg4 arg5 harg5 arg6 harg6 arg7 harg7 arg8 harg8 arg9 harg9 arg10 harg10 (harg2.unread x0) (Scf.trips k0_t1_loop.lb k0_t1_loop.ub k0_t1_loop.st)).2 (Rect.unit (s := S256x128) ![0, 0] S256x128.size inb_S256x128_S256x128_0_0).toLoadRect)⟩] := by
  unfold kernelRun0_A
  rfl

theorem run_5 : (kernelRun0_A (F := F) c i arg2 harg2 arg3 harg3 arg4 harg4 arg5 harg5 arg6 harg6 arg7 harg7 arg8 harg8 arg9 harg9 arg10 harg10 x0 x1 x2 x3 x4).1
    = [⟨Rect.unit (s := S1x256x3072) ![0, 0, 2560] S1x256x512.size inb_S1x256x3072_S1x256x512_0_0_2560,
      k0_pay368 (arg8.view.readCov (pb_k0_t1 (F := F) Variants.none c none i arg2 harg2 arg3 harg3 arg4 harg4 arg5 harg5 arg6 harg6 arg7 harg7 arg8 harg8 arg9 harg9 arg10 harg10 (harg2.unread x0) (Scf.trips k0_t1_loop.lb k0_t1_loop.ub k0_t1_loop.st)).1 (Rect.unit (s := S1x256x6144) ![0, 0, 0] S1x256x6144.size inb_S1x256x6144_S1x256x6144_0_0_0).toLoadRect)
        (arg3.view.readAt (Elt F) (Rect.unit (s := S6144x3072) ![0, 2560] S6144x512.size inb_S6144x3072_S6144x512_0_2560).toLoadRect (harg3.unread x1))
        (arg10.view.readCov (pb_k0_t1 (F := F) Variants.none c none i arg2 harg2 arg3 harg3 arg4 harg4 arg5 harg5 arg6 harg6 arg7 harg7 arg8 harg8 arg9 harg9 arg10 harg10 (harg2.unread x0) (Scf.trips k0_t1_loop.lb k0_t1_loop.ub k0_t1_loop.st)).2 (Rect.unit (s := S256x128) ![0, 0] S256x1.size inb_S256x128_S256x1_0_0).toLoadRect)
        (arg4.view.readAt (Elt F) (Rect.unit (s := S1x3072) ![0, 2560] S1x512.size inb_S1x3072_S1x512_0_2560).toLoadRect (harg4.unread x2))
        (arg5.view.readAt (Elt F) (Rect.unit (s := S1x3072) ![0, 2560] S1x512.size inb_S1x3072_S1x512_0_2560).toLoadRect (harg5.unread x3))
        (arg6.view.readAt (Elt F) (Rect.unit (s := S256x3072) ![0, 2560] S256x512.size inb_S256x3072_S256x512_0_2560).toLoadRect (harg6.unread x4))⟩,
    ⟨Rect.unit (s := S1x256x3072) ![0, 0, 2048] S1x256x512.size inb_S1x256x3072_S1x256x512_0_0_2048,
      k0_pay368 (arg8.view.readCov (pb_k0_t1 (F := F) Variants.none c none i arg2 harg2 arg3 harg3 arg4 harg4 arg5 harg5 arg6 harg6 arg7 harg7 arg8 harg8 arg9 harg9 arg10 harg10 (harg2.unread x0) (Scf.trips k0_t1_loop.lb k0_t1_loop.ub k0_t1_loop.st)).1 (Rect.unit (s := S1x256x6144) ![0, 0, 0] S1x256x6144.size inb_S1x256x6144_S1x256x6144_0_0_0).toLoadRect)
        (arg3.view.readAt (Elt F) (Rect.unit (s := S6144x3072) ![0, 2048] S6144x512.size inb_S6144x3072_S6144x512_0_2048).toLoadRect (harg3.unread x1))
        (arg10.view.readCov (pb_k0_t1 (F := F) Variants.none c none i arg2 harg2 arg3 harg3 arg4 harg4 arg5 harg5 arg6 harg6 arg7 harg7 arg8 harg8 arg9 harg9 arg10 harg10 (harg2.unread x0) (Scf.trips k0_t1_loop.lb k0_t1_loop.ub k0_t1_loop.st)).2 (Rect.unit (s := S256x128) ![0, 0] S256x1.size inb_S256x128_S256x1_0_0).toLoadRect)
        (arg4.view.readAt (Elt F) (Rect.unit (s := S1x3072) ![0, 2048] S1x512.size inb_S1x3072_S1x512_0_2048).toLoadRect (harg4.unread x2))
        (arg5.view.readAt (Elt F) (Rect.unit (s := S1x3072) ![0, 2048] S1x512.size inb_S1x3072_S1x512_0_2048).toLoadRect (harg5.unread x3))
        (arg6.view.readAt (Elt F) (Rect.unit (s := S256x3072) ![0, 2048] S256x512.size inb_S256x3072_S256x512_0_2048).toLoadRect (harg6.unread x4))⟩,
    ⟨Rect.unit (s := S1x256x3072) ![0, 0, 1536] S1x256x512.size inb_S1x256x3072_S1x256x512_0_0_1536,
      k0_pay368 (arg8.view.readCov (pb_k0_t1 (F := F) Variants.none c none i arg2 harg2 arg3 harg3 arg4 harg4 arg5 harg5 arg6 harg6 arg7 harg7 arg8 harg8 arg9 harg9 arg10 harg10 (harg2.unread x0) (Scf.trips k0_t1_loop.lb k0_t1_loop.ub k0_t1_loop.st)).1 (Rect.unit (s := S1x256x6144) ![0, 0, 0] S1x256x6144.size inb_S1x256x6144_S1x256x6144_0_0_0).toLoadRect)
        (arg3.view.readAt (Elt F) (Rect.unit (s := S6144x3072) ![0, 1536] S6144x512.size inb_S6144x3072_S6144x512_0_1536).toLoadRect (harg3.unread x1))
        (arg10.view.readCov (pb_k0_t1 (F := F) Variants.none c none i arg2 harg2 arg3 harg3 arg4 harg4 arg5 harg5 arg6 harg6 arg7 harg7 arg8 harg8 arg9 harg9 arg10 harg10 (harg2.unread x0) (Scf.trips k0_t1_loop.lb k0_t1_loop.ub k0_t1_loop.st)).2 (Rect.unit (s := S256x128) ![0, 0] S256x1.size inb_S256x128_S256x1_0_0).toLoadRect)
        (arg4.view.readAt (Elt F) (Rect.unit (s := S1x3072) ![0, 1536] S1x512.size inb_S1x3072_S1x512_0_1536).toLoadRect (harg4.unread x2))
        (arg5.view.readAt (Elt F) (Rect.unit (s := S1x3072) ![0, 1536] S1x512.size inb_S1x3072_S1x512_0_1536).toLoadRect (harg5.unread x3))
        (arg6.view.readAt (Elt F) (Rect.unit (s := S256x3072) ![0, 1536] S256x512.size inb_S256x3072_S256x512_0_1536).toLoadRect (harg6.unread x4))⟩,
    ⟨Rect.unit (s := S1x256x3072) ![0, 0, 1024] S1x256x512.size inb_S1x256x3072_S1x256x512_0_0_1024,
      k0_pay368 (arg8.view.readCov (pb_k0_t1 (F := F) Variants.none c none i arg2 harg2 arg3 harg3 arg4 harg4 arg5 harg5 arg6 harg6 arg7 harg7 arg8 harg8 arg9 harg9 arg10 harg10 (harg2.unread x0) (Scf.trips k0_t1_loop.lb k0_t1_loop.ub k0_t1_loop.st)).1 (Rect.unit (s := S1x256x6144) ![0, 0, 0] S1x256x6144.size inb_S1x256x6144_S1x256x6144_0_0_0).toLoadRect)
        (arg3.view.readAt (Elt F) (Rect.unit (s := S6144x3072) ![0, 1024] S6144x512.size inb_S6144x3072_S6144x512_0_1024).toLoadRect (harg3.unread x1))
        (arg10.view.readCov (pb_k0_t1 (F := F) Variants.none c none i arg2 harg2 arg3 harg3 arg4 harg4 arg5 harg5 arg6 harg6 arg7 harg7 arg8 harg8 arg9 harg9 arg10 harg10 (harg2.unread x0) (Scf.trips k0_t1_loop.lb k0_t1_loop.ub k0_t1_loop.st)).2 (Rect.unit (s := S256x128) ![0, 0] S256x1.size inb_S256x128_S256x1_0_0).toLoadRect)
        (arg4.view.readAt (Elt F) (Rect.unit (s := S1x3072) ![0, 1024] S1x512.size inb_S1x3072_S1x512_0_1024).toLoadRect (harg4.unread x2))
        (arg5.view.readAt (Elt F) (Rect.unit (s := S1x3072) ![0, 1024] S1x512.size inb_S1x3072_S1x512_0_1024).toLoadRect (harg5.unread x3))
        (arg6.view.readAt (Elt F) (Rect.unit (s := S256x3072) ![0, 1024] S256x512.size inb_S256x3072_S256x512_0_1024).toLoadRect (harg6.unread x4))⟩,
    ⟨Rect.unit (s := S1x256x3072) ![0, 0, 512] S1x256x512.size inb_S1x256x3072_S1x256x512_0_0_512,
      k0_pay368 (arg8.view.readCov (pb_k0_t1 (F := F) Variants.none c none i arg2 harg2 arg3 harg3 arg4 harg4 arg5 harg5 arg6 harg6 arg7 harg7 arg8 harg8 arg9 harg9 arg10 harg10 (harg2.unread x0) (Scf.trips k0_t1_loop.lb k0_t1_loop.ub k0_t1_loop.st)).1 (Rect.unit (s := S1x256x6144) ![0, 0, 0] S1x256x6144.size inb_S1x256x6144_S1x256x6144_0_0_0).toLoadRect)
        (arg3.view.readAt (Elt F) (Rect.unit (s := S6144x3072) ![0, 512] S6144x512.size inb_S6144x3072_S6144x512_0_512).toLoadRect (harg3.unread x1))
        (arg10.view.readCov (pb_k0_t1 (F := F) Variants.none c none i arg2 harg2 arg3 harg3 arg4 harg4 arg5 harg5 arg6 harg6 arg7 harg7 arg8 harg8 arg9 harg9 arg10 harg10 (harg2.unread x0) (Scf.trips k0_t1_loop.lb k0_t1_loop.ub k0_t1_loop.st)).2 (Rect.unit (s := S256x128) ![0, 0] S256x1.size inb_S256x128_S256x1_0_0).toLoadRect)
        (arg4.view.readAt (Elt F) (Rect.unit (s := S1x3072) ![0, 512] S1x512.size inb_S1x3072_S1x512_0_512).toLoadRect (harg4.unread x2))
        (arg5.view.readAt (Elt F) (Rect.unit (s := S1x3072) ![0, 512] S1x512.size inb_S1x3072_S1x512_0_512).toLoadRect (harg5.unread x3))
        (arg6.view.readAt (Elt F) (Rect.unit (s := S256x3072) ![0, 512] S256x512.size inb_S256x3072_S256x512_0_512).toLoadRect (harg6.unread x4))⟩,
    ⟨Rect.unit (s := S1x256x3072) ![0, 0, 0] S1x256x512.size inb_S1x256x3072_S1x256x512_0_0_0,
      k0_pay368 (arg8.view.readCov (pb_k0_t1 (F := F) Variants.none c none i arg2 harg2 arg3 harg3 arg4 harg4 arg5 harg5 arg6 harg6 arg7 harg7 arg8 harg8 arg9 harg9 arg10 harg10 (harg2.unread x0) (Scf.trips k0_t1_loop.lb k0_t1_loop.ub k0_t1_loop.st)).1 (Rect.unit (s := S1x256x6144) ![0, 0, 0] S1x256x6144.size inb_S1x256x6144_S1x256x6144_0_0_0).toLoadRect)
        (arg3.view.readAt (Elt F) (Rect.unit (s := S6144x3072) ![0, 0] S6144x512.size inb_S6144x3072_S6144x512_0_0).toLoadRect (harg3.unread x1))
        (arg10.view.readCov (pb_k0_t1 (F := F) Variants.none c none i arg2 harg2 arg3 harg3 arg4 harg4 arg5 harg5 arg6 harg6 arg7 harg7 arg8 harg8 arg9 harg9 arg10 harg10 (harg2.unread x0) (Scf.trips k0_t1_loop.lb k0_t1_loop.ub k0_t1_loop.st)).2 (Rect.unit (s := S256x128) ![0, 0] S256x1.size inb_S256x128_S256x1_0_0).toLoadRect)
        (arg4.view.readAt (Elt F) (Rect.unit (s := S1x3072) ![0, 0] S1x512.size inb_S1x3072_S1x512_0_0).toLoadRect (harg4.unread x2))
        (arg5.view.readAt (Elt F) (Rect.unit (s := S1x3072) ![0, 0] S1x512.size inb_S1x3072_S1x512_0_0).toLoadRect (harg5.unread x3))
        (arg6.view.readAt (Elt F) (Rect.unit (s := S256x3072) ![0, 0] S256x512.size inb_S256x3072_S256x512_0_0).toLoadRect (harg6.unread x4))⟩] := by
  unfold kernelRun0_A
  rfl

end

end Cert.KernelIdeal.Hand

end
-- ==== Proof.OutIdeal.lean ====
module

public import proofs.«01_k».proof.Proof.PiecesIdeal
public import proofs.«01_k».proof.Proof.StoresIdeal
public import Idealize.ShloMosaic.Lib.WholeRead
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.Pointwise

section
variable (x0 : Vec Ideal S12288x128 .bf16) (x1 : Vec Ideal S6144x3072 .fp8e4m3) (x2 : Vec Ideal S1x3072 .f32) (x3 : Vec Ideal S1x3072 .f32) (x4 : Vec Ideal S256x3072 .bf16)

/-- The projected block. -/
def outG : S1x256x3072.Idx → EReal := fun y =>
  (∑ k : Fin 6144, codeG x0 (ix3 0 (y 1) k) * x1 (ix2 k (y 2))) * scaleG x0 (ix2 (y 1) 0) * x2 (ix2 0 (y 2)) + x3 (ix2 0 (y 2)) + x4 (ix2 (y 1) (y 2))

/-- The scales of a block, as a row. -/
def rowG : S1x1x256.Idx → EReal := fun y => scaleG x0 (ix2 (y 2) 0)

theorem pay_out_apply (c : Vec Ideal S1x256x6144 .fp8e4m3) (w : Vec Ideal S6144x512 .fp8e4m3) (s : Vec Ideal S256x1 .f32)
    (ws b : Vec Ideal S1x512 .f32) (p : Vec Ideal S256x512 .bf16) (z : Fin 1) (a : Fin 256) (l : Fin 512) :
    (k0_pay368 c w s ws b p : FVec Ideal S1x256x512 .bf16) (ix3 z a l)
      = (∑ k : Fin 6144, (c (ix3 0 a k) : EReal) * w (ix2 k l)) * s (ix2 a 0) * ws (ix2 0 l) + b (ix2 0 l) + p (ix2 a l) := by
  pointwise [k0_pay368]

theorem pay_row_apply (s : Vec Ideal S256x128 .f32) (z z' : Fin 1) (a : Fin 256) :
    (k0_pay365 s : FVec Ideal S1x1x256 .f32) (ix3 z z' a) = s (ix2 a 0) := by
  pointwise [k0_pay365]

section
variable (arg3 : Memref sig .tc .vmem S6144x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S256x3072 .bf16) (harg6 : arg6.IsWhole) (arg8 : Memref sig .tc .vmem S1x256x6144 .fp8e4m3) (arg10 : Memref sig .tc .vmem S256x128 .f32)

theorem out_piece (x0 : Vec Ideal S12288x128 .bf16) (x1 : Vec Ideal S6144x3072 .fp8e4m3) (x2 : Vec Ideal S1x3072 .f32) (x3 : Vec Ideal S1x3072 .f32) (x4 : Vec Ideal S256x3072 .bf16)
    (L8 : List (View.Piece (Elt Ideal) S1x256x6144 .fp8e4m3)) (L10 : List (View.Piece (Elt Ideal) S256x128 .f32))
    (h8 : View.canon L8 = codeG x0) (h10 : View.canon L10 = scaleG x0) (n : ℕ) (hn : n + 512 ≤ 3072)
    (i7 : ∀ a, (![0, 0, n] : Fin 3 → ℕ) a + S1x256x512.size a ≤ S1x256x3072.size a)
    (i3 : ∀ a, (![0, n] : Fin 2 → ℕ) a + S6144x512.size a ≤ S6144x3072.size a)
    (i4 : ∀ a, (![0, n] : Fin 2 → ℕ) a + S1x512.size a ≤ S1x3072.size a)
    (i5 : ∀ a, (![0, n] : Fin 2 → ℕ) a + S1x512.size a ≤ S1x3072.size a)
    (i6 : ∀ a, (![0, n] : Fin 2 → ℕ) a + S256x512.size a ≤ S256x3072.size a) (x : S1x256x512.Idx) :
    k0_pay368 (F := Ideal) (arg8.view.readCov L8 (Rect.unit (s := S1x256x6144) ![0, 0, 0] S1x256x6144.size inb_S1x256x6144_S1x256x6144_0_0_0).toLoadRect)
        (arg3.view.readAt (Elt Ideal) (Rect.unit (s := S6144x3072) ![0, n] S6144x512.size i3).toLoadRect (harg3.unread x1))
        (arg10.view.readCov L10 (Rect.unit (s := S256x128) ![0, 0] S256x1.size inb_S256x128_S256x1_0_0).toLoadRect)
        (arg4.view.readAt (Elt Ideal) (Rect.unit (s := S1x3072) ![0, n] S1x512.size i4).toLoadRect (harg4.unread x2))
        (arg5.view.readAt (Elt Ideal) (Rect.unit (s := S1x3072) ![0, n] S1x512.size i5).toLoadRect (harg5.unread x3))
        (arg6.view.readAt (Elt Ideal) (Rect.unit (s := S256x3072) ![0, n] S256x512.size i6).toLoadRect (harg6.unread x4)) x
      = outG x0 x1 x2 x3 x4 ((Rect.unit (s := S1x256x3072) ![0, 0, n] S1x256x512.size i7).emb x) := by
  obtain ⟨z, a, l, rfl⟩ : ∃ (z : Fin 1) (a : Fin 256) (l : Fin 512), x = ix3 z a l := ⟨x 0, x 1, x 2, eq_ix3 x⟩
  rw [pay_out_apply, View.readCov_eq_canon', View.readCov_eq_canon', h8, h10]
  have hy : (Rect.unit (s := S1x256x3072) ![0, 0, n] S1x256x512.size i7).emb (ix3 z a l) = ix3 0 a ⟨n + l.val, by omega⟩ := by
    funext b
    match b with
    | ⟨0, _⟩ => exact Fin.ext (by show 0 + 1 * z.val = 0; omega)
    | ⟨1, _⟩ => exact Fin.ext (by show 0 + 1 * a.val = a.val; omega)
    | ⟨2, _⟩ => exact Fin.ext (by show n + 1 * l.val = n + l.val; omega)
  rw [hy]
  have e1 : ∀ k : Fin 6144, (Rect.unit (s := S1x256x6144) ![0, 0, 0] S1x256x6144.size inb_S1x256x6144_S1x256x6144_0_0_0).toLoadRect.idx (ix3 0 a k) = ix3 0 a k := by
    intro k; funext b
    match b with
    | ⟨0, _⟩ => rfl
    | ⟨1, _⟩ => exact Fin.ext (by show 0 + 1 * a.val = a.val; omega)
    | ⟨2, _⟩ => exact Fin.ext (by show 0 + 1 * k.val = k.val; omega)
  have e3 : ∀ k : Fin 6144, (Rect.unit (s := S6144x3072) ![0, n] S6144x512.size i3).toLoadRect.idx (ix2 k l) = ix2 k ⟨n + l.val, by omega⟩ := by
    intro k; funext b
    match b with
    | ⟨0, _⟩ => exact Fin.ext (by show 0 + 1 * k.val = k.val; omega)
    | ⟨1, _⟩ => exact Fin.ext (by show n + 1 * l.val = n + l.val; omega)
  have e10 : (Rect.unit (s := S256x128) ![0, 0] S256x1.size inb_S256x128_S256x1_0_0).toLoadRect.idx (ix2 a 0) = ix2 a 0 := by
    funext b
    match b with
    | ⟨0, _⟩ => exact Fin.ext (by show 0 + 1 * a.val = a.val; omega)
    | ⟨1, _⟩ => rfl
  have e4 : (Rect.unit (s := S1x3072) ![0, n] S1x512.size i4).toLoadRect.idx (ix2 0 l) = ix2 0 ⟨n + l.val, by omega⟩ := by
    funext b
    match b with
    | ⟨0, _⟩ => rfl
    | ⟨1, _⟩ => exact Fin.ext (by show n + 1 * l.val = n + l.val; omega)
  have e6 : (Rect.unit (s := S256x3072) ![0, n] S256x512.size i6).toLoadRect.idx (ix2 a l) = ix2 a ⟨n + l.val, by omega⟩ := by
    funext b
    match b with
    | ⟨0, _⟩ => exact Fin.ext (by show 0 + 1 * a.val = a.val; omega)
    | ⟨1, _⟩ => exact Fin.ext (by show n + 1 * l.val = n + l.val; omega)
  simp only [Memref.IsWhole.readAt_unread, e1, e3, e4, e6, e10]
  rfl

end
end

section
variable (c : Dev nD) (i : grid0.Coords) (arg2 : Memref sig .tc .vmem S12288x128 .bf16) (harg2 : arg2.IsWhole) (arg3 : Memref sig .tc .vmem S6144x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S256x3072 .bf16) (harg6 : arg6.IsWhole) (arg7 : Memref sig .tc .vmem S1x256x3072 .bf16) (harg7 : arg7.IsWhole) (arg8 : Memref sig .tc .vmem S1x256x6144 .fp8e4m3) (harg8 : arg8.IsWhole) (arg9 : Memref sig .tc .vmem S1x1x256 .f32) (harg9 : arg9.IsWhole) (arg10 : Memref sig .tc .vmem S256x128 .f32) (harg10 : arg10.IsWhole) (x0 : Vec Ideal S12288x128 .bf16) (x1 : Vec Ideal S6144x3072 .fp8e4m3) (x2 : Vec Ideal S1x3072 .f32) (x3 : Vec Ideal S1x3072 .f32) (x4 : Vec Ideal S256x3072 .bf16)

theorem out_5 : out0_A_5 (F := Ideal) c i arg2 harg2 arg3 harg3 arg4 harg4 arg5 harg5 arg6 harg6 arg7 harg7 arg8 harg8 arg9 harg9 arg10 harg10 x0 x1 x2 x3 x4 = outG x0 x1 x2 x3 x4 := by
  funext y
  unfold out0_A_5
  rw [View.read_writes_junk_eq_canon]
  refine View.canon_apply_of_pieces _ _ ?_ y (cover0_A_5 (F := Ideal) c i arg2 harg2 arg3 harg3 arg4 harg4 arg5 harg5 arg6 harg6 arg7 harg7 arg8 harg8 arg9 harg9 arg10 harg10 x0 x1 x2 x3 x4 y)
  rw [run_5]
  simp only [List.forall_mem_cons]
  exact ⟨fun x => out_piece arg3 harg3 arg4 harg4 arg5 harg5 arg6 harg6 arg8 arg10 x0 x1 x2 x3 x4 _ _ (code_canon Variants.none c none i arg2 harg2 arg3 harg3 arg4 harg4 arg5 harg5 arg6 harg6 arg7 harg7 arg8 harg8 arg9 harg9 arg10 harg10 x0) (scale_canon Variants.none c none i arg2 harg2 arg3 harg3 arg4 harg4 arg5 harg5 arg6 harg6 arg7 harg7 arg8 harg8 arg9 harg9 arg10 harg10 x0) 2560 (by decide) _ _ _ _ _ x,
    fun x => out_piece arg3 harg3 arg4 harg4 arg5 harg5 arg6 harg6 arg8 arg10 x0 x1 x2 x3 x4 _ _ (code_canon Variants.none c none i arg2 harg2 arg3 harg3 arg4 harg4 arg5 harg5 arg6 harg6 arg7 harg7 arg8 harg8 arg9 harg9 arg10 harg10 x0) (scale_canon Variants.none c none i arg2 harg2 arg3 harg3 arg4 harg4 arg5 harg5 arg6 harg6 arg7 harg7 arg8 harg8 arg9 harg9 arg10 harg10 x0) 2048 (by decide) _ _ _ _ _ x,
    fun x => out_piece arg3 harg3 arg4 harg4 arg5 harg5 arg6 harg6 arg8 arg10 x0 x1 x2 x3 x4 _ _ (code_canon Variants.none c none i arg2 harg2 arg3 harg3 arg4 harg4 arg5 harg5 arg6 harg6 arg7 harg7 arg8 harg8 arg9 harg9 arg10 harg10 x0) (scale_canon Variants.none c none i arg2 harg2 arg3 harg3 arg4 harg4 arg5 harg5 arg6 harg6 arg7 harg7 arg8 harg8 arg9 harg9 arg10 harg10 x0) 1536 (by decide) _ _ _ _ _ x,
    fun x => out_piece arg3 harg3 arg4 harg4 arg5 harg5 arg6 harg6 arg8 arg10 x0 x1 x2 x3 x4 _ _ (code_canon Variants.none c none i arg2 harg2 arg3 harg3 arg4 harg4 arg5 harg5 arg6 harg6 arg7 harg7 arg8 harg8 arg9 harg9 arg10 harg10 x0) (scale_canon Variants.none c none i arg2 harg2 arg3 harg3 arg4 harg4 arg5 harg5 arg6 harg6 arg7 harg7 arg8 harg8 arg9 harg9 arg10 harg10 x0) 1024 (by decide) _ _ _ _ _ x,
    fun x => out_piece arg3 harg3 arg4 harg4 arg5 harg5 arg6 harg6 arg8 arg10 x0 x1 x2 x3 x4 _ _ (code_canon Variants.none c none i arg2 harg2 arg3 harg3 arg4 harg4 arg5 harg5 arg6 harg6 arg7 harg7 arg8 harg8 arg9 harg9 arg10 harg10 x0) (scale_canon Variants.none c none i arg2 harg2 arg3 harg3 arg4 harg4 arg5 harg5 arg6 harg6 arg7 harg7 arg8 harg8 arg9 harg9 arg10 harg10 x0) 512 (by decide) _ _ _ _ _ x,
    fun x => out_piece arg3 harg3 arg4 harg4 arg5 harg5 arg6 harg6 arg8 arg10 x0 x1 x2 x3 x4 _ _ (code_canon Variants.none c none i arg2 harg2 arg3 harg3 arg4 harg4 arg5 harg5 arg6 harg6 arg7 harg7 arg8 harg8 arg9 harg9 arg10 harg10 x0) (scale_canon Variants.none c none i arg2 harg2 arg3 harg3 arg4 harg4 arg5 harg5 arg6 harg6 arg7 harg7 arg8 harg8 arg9 harg9 arg10 harg10 x0) 0 (by decide) _ _ _ _ _ x, fun _ h => absurd h List.not_mem_nil⟩

theorem out_6 : out0_A_6 (F := Ideal) c i arg2 harg2 arg3 harg3 arg4 harg4 arg5 harg5 arg6 harg6 arg7 harg7 arg8 harg8 arg9 harg9 arg10 harg10 x0 x1 x2 x3 x4 = codeG x0 := by
  unfold out0_A_6
  rw [View.read_writes_junk_eq_canon, run_6, code_canon]

theorem out_7 : out0_A_7 (F := Ideal) c i arg2 harg2 arg3 harg3 arg4 harg4 arg5 harg5 arg6 harg6 arg7 harg7 arg8 harg8 arg9 harg9 arg10 harg10 x0 x1 x2 x3 x4 = rowG x0 := by
  funext y
  unfold out0_A_7
  rw [View.read_writes_junk_eq_canon]
  refine View.canon_apply_of_pieces _ _ ?_ y (cover0_A_7 (F := Ideal) c i arg2 harg2 arg3 harg3 arg4 harg4 arg5 harg5 arg6 harg6 arg7 harg7 arg8 harg8 arg9 harg9 arg10 harg10 x0 x1 x2 x3 x4 y)
  rw [run_7]
  simp only [List.forall_mem_cons]
  refine ⟨fun x => ?_, fun _ h => absurd h List.not_mem_nil⟩
  obtain ⟨z, z', a, rfl⟩ : ∃ (z : Fin 1) (z' : Fin 1) (a : Fin 256), x = ix3 z z' a := ⟨x 0, x 1, x 2, eq_ix3 x⟩
  rw [View.readCov_eq_canon', scale_canon]
  refine (pay_row_apply _ z z' a).trans ?_
  unfold rowG
  congr 1
  funext b
  match b with
  | ⟨0, _⟩ => exact Fin.ext rfl
  | ⟨1, _⟩ => rfl

end

end Cert.KernelIdeal.Hand

end
-- ==== Proof.SpecIdeal.lean ====
/- What both programs compute, stated over the arguments: the tokens of the signal, and the three results given the
   scale of a token and its reciprocal. -/
module

public import proofs.«01_k».proof.Proof.OutIdeal

@[expose] public section

noncomputable section

namespace Cert.Spec

open Idealize.ShloMosaic Idealize.ShloMosaic.Pointwise Cert.KernelIdeal Cert.KernelIdeal.Hand

/-- Entry `k` of token `p` of batch `b`: channel `k / 768`, sample `k % 768` of the token's stretch of 768. -/
def token (x : Vec Ideal S8x8x1572864 .bf16) (b : Fin 8) (p : Fin 2048) (k : Fin 6144) : EReal :=
  x (ix3 b (⟨k.val / 768, by omega⟩ : Fin 8) (⟨p.val * 768 + k.val % 768, by omega⟩ : Fin 1572864))

/-- The largest absolute value of a token. -/
def amax (x : Vec Ideal S8x8x1572864 .bf16) (b : Fin 8) (p : Fin 2048) : EReal :=
  Finset.univ.sup fun k : Fin 6144 => absE (token x b p k)

section
variable (scale inv : EReal → EReal) (clip : EReal → EReal → EReal)

/-- The codes, of the reciprocal scale as a function of the largest absolute value. -/
def codes (x : Vec Ideal S8x8x1572864 .bf16) : Vec Ideal S8x2048x6144 .fp8e4m3 := fun y =>
  clip (token x (y 0) (y 1) (y 2)) (inv (amax x (y 0) (y 1)))

/-- The scales. -/
def scales (x : Vec Ideal S8x8x1572864 .bf16) : Vec Ideal S8x1x2048 .f32 := fun y => scale (amax x (y 0) (y 2))

/-- The projection. -/
def out (x : Vec Ideal S8x8x1572864 .bf16) (w : Vec Ideal S6144x3072 .fp8e4m3) (ws bias : Vec Ideal S3072 .f32)
    (pos : Vec Ideal S2048x3072 .bf16) : Vec Ideal S8x2048x3072 .bf16 := fun y =>
  (∑ k : Fin 6144, codes inv clip x (ix3 (y 0) (y 1) k) * w (ix2 k (y 2))) * scale (amax x (y 0) (y 1)) * ws (ix1 (y 2))
    + bias (ix1 (y 2)) + pos (ix2 (y 1) (y 2))
end

end Cert.Spec

end
-- ==== Proof.ArrayIdeal.lean ====
/- The three result arrays of the kernel as functions of the arguments: the block each grid point writes, put together
   over the grid. -/
module

public import proofs.«01_k».proof.Proof.SpecIdeal
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.Pointwise
open Idealize.SL.Sem Cert.Spec

variable (m : (ℓ : Loc nD τ sig) → Buf (Elt Ideal) ℓ) (ρ : Dev nD → PrngReg)

/-! ## Where each window's block lies at a grid point -/

theorem at0 : ∀ t : Fin cfg0.N, win0_0.index t (0 : Fin 2) = t.val % 8 * 8 + t.val / 8 ∧ win0_0.index t (1 : Fin 2) = 0 :=
  (by decide +kernel : ∀ t : Fin grid0.N, _)
theorem at1 : ∀ t : Fin cfg0.N, win0_1.index t (0 : Fin 2) = 0 ∧ win0_1.index t (1 : Fin 2) = 0 :=
  (by decide +kernel : ∀ t : Fin grid0.N, _)
theorem at2 : ∀ t : Fin cfg0.N, win0_2.index t (0 : Fin 2) = 0 ∧ win0_2.index t (1 : Fin 2) = 0 :=
  (by decide +kernel : ∀ t : Fin grid0.N, _)
theorem at3 : ∀ t : Fin cfg0.N, win0_3.index t (0 : Fin 2) = 0 ∧ win0_3.index t (1 : Fin 2) = 0 :=
  (by decide +kernel : ∀ t : Fin grid0.N, _)
theorem at4 : ∀ t : Fin cfg0.N, win0_4.index t (0 : Fin 2) = t.val / 8 ∧ win0_4.index t (1 : Fin 2) = 0 :=
  (by decide +kernel : ∀ t : Fin grid0.N, _)
theorem at5 : ∀ t : Fin cfg0.N, win0_5.index t (0 : Fin 3) = t.val % 8 ∧ win0_5.index t (1 : Fin 3) = t.val / 8 ∧ win0_5.index t (2 : Fin 3) = 0 :=
  (by decide +kernel : ∀ t : Fin grid0.N, _)
theorem at6 : ∀ t : Fin cfg0.N, win0_6.index t (0 : Fin 3) = t.val % 8 ∧ win0_6.index t (1 : Fin 3) = t.val / 8 ∧ win0_6.index t (2 : Fin 3) = 0 :=
  (by decide +kernel : ∀ t : Fin grid0.N, _)
theorem at7 : ∀ t : Fin cfg0.N, win0_7.index t (0 : Fin 3) = t.val % 8 ∧ win0_7.index t (1 : Fin 3) = 0 ∧ win0_7.index t (2 : Fin 3) = t.val / 8 :=
  (by decide +kernel : ∀ t : Fin grid0.N, _)

theorem t_lt (t : Fin cfg0.N) : t.val < 64 := lt_of_lt_of_eq t.isLt (by decide)

/-- The batch and the stretch of 256 tokens that a grid point works on. -/
def batch (t : Fin cfg0.N) : Fin 8 := ⟨t.val % 8, by omega⟩
def pos (t : Fin cfg0.N) (r : Fin 256) : Fin 2048 := ⟨t.val / 8 * 256 + r.val, by have := t_lt t; omega⟩

/-! ## The argument blocks -/

/-- A row of the words of the signal: eight rows a stretch of 128 samples, one a channel. -/
theorem words_apply (x : Vec Ideal S8x8x1572864 .bf16) (q : Fin 786432) (l : Fin 128) :
    (shapeCast S786432x128 (transpose S8x12288x8x128 [0, 2, 1, 3] (shapeCast S8x8x12288x128 x shapeCasts_S8x8x1572864_S8x8x12288x128)
      transposes_S8x8x12288x128_S8x12288x8x128_0_2_1_3) shapeCasts_S8x12288x8x128_S786432x128 : Vec Ideal S786432x128 .bf16) (ix2 q l)
      = x (ix3 (⟨q.val / 98304, by omega⟩ : Fin 8) (⟨q.val % 8, by omega⟩ : Fin 8) (⟨q.val / 8 % 12288 * 128 + l.val, by omega⟩ : Fin 1572864)) := by
  pointwise

theorem blk0 (c : Dev nD) (t : Fin cfg0.N) (r : Fin 12288) (l : Fin 128) :
    iblk m c 0 t (ix2 r l) = m ((c : Thread nD τ).loc main_arg0)
      (ix3 (batch t) (⟨r.val % 8, by omega⟩ : Fin 8) (⟨(t.val / 8 * 1536 + r.val / 8) * 128 + l.val, by have := t_lt t; omega⟩ : Fin 1572864)) := by
  obtain ⟨e0, e1⟩ := at0 t
  have ht := t_lt t
  have hemb : ((cfg0.win 0).blk t).view.emb (ix2 r l) = ix2 (⟨(t.val % 8 * 8 + t.val / 8) * 12288 + r.val, by omega⟩ : Fin 786432) l := by
    funext a; apply Fin.ext
    match a with
    | ⟨0, _⟩ => show win0_0.index t (0 : Fin 2) * 12288 + 1 * r.val = _; rw [e0]; show _ = (t.val % 8 * 8 + t.val / 8) * 12288 + r.val; omega
    | ⟨1, _⟩ => show win0_0.index t (1 : Fin 2) * 128 + 1 * l.val = l.val; omega
  show V m c main_v2 (((cfg0.win 0).blk t).view.emb (ix2 r l)) = _
  rw [hemb]
  entry_read
  refine (words_apply _ _ _).trans (congrArg _ ?_)
  funext a; apply Fin.ext
  match a with
  | ⟨0, _⟩ => show ((t.val % 8 * 8 + t.val / 8) * 12288 + r.val) / 98304 = t.val % 8; omega
  | ⟨1, _⟩ => show ((t.val % 8 * 8 + t.val / 8) * 12288 + r.val) % 8 = r.val % 8; omega
  | ⟨2, _⟩ => show ((t.val % 8 * 8 + t.val / 8) * 12288 + r.val) / 8 % 12288 * 128 + l.val = (t.val / 8 * 1536 + r.val / 8) * 128 + l.val; omega

theorem blk1 (c : Dev nD) (t : Fin cfg0.N) (k : Fin 6144) (n : Fin 3072) :
    iblk m c 1 t (ix2 k n) = m ((c : Thread nD τ).loc main_arg1) (ix2 k n) := by
  obtain ⟨e0, e1⟩ := at1 t
  show V m c main_arg1 (((cfg0.win 1).blk t).view.emb (ix2 k n)) = _
  rw [V_main_arg1]
  refine congrArg _ (funext fun a => Fin.ext ?_)
  match a with
  | ⟨0, _⟩ => show win0_1.index t (0 : Fin 2) * 6144 + 1 * k.val = k.val; omega
  | ⟨1, _⟩ => show win0_1.index t (1 : Fin 2) * 3072 + 1 * n.val = n.val; omega

theorem row_apply (x : Vec Ideal S3072 .f32) (q : Fin 1) (n : Fin 3072) :
    (shapeCast S1x3072 x shapeCasts_S3072_S1x3072 : Vec Ideal S1x3072 .f32) (ix2 q n) = x (ix1 n) := by
  pointwise

theorem blk2 (c : Dev nD) (t : Fin cfg0.N) (n : Fin 3072) :
    iblk m c 2 t (ix2 0 n) = m ((c : Thread nD τ).loc main_arg2) (ix1 n) := by
  obtain ⟨e0, e1⟩ := at2 t
  have hemb : ((cfg0.win 2).blk t).view.emb (ix2 0 n) = ix2 (0 : Fin 1) n := by
    funext a; apply Fin.ext
    match a with
    | ⟨0, _⟩ => show win0_2.index t (0 : Fin 2) * 1 + 1 * 0 = 0; omega
    | ⟨1, _⟩ => show win0_2.index t (1 : Fin 2) * 3072 + 1 * n.val = n.val; omega
  show V m c main_v3 (((cfg0.win 2).blk t).view.emb (ix2 0 n)) = _
  rw [hemb]
  entry_read
  exact row_apply _ _ _

theorem blk3 (c : Dev nD) (t : Fin cfg0.N) (n : Fin 3072) :
    iblk m c 3 t (ix2 0 n) = m ((c : Thread nD τ).loc main_arg3) (ix1 n) := by
  obtain ⟨e0, e1⟩ := at3 t
  have hemb : ((cfg0.win 3).blk t).view.emb (ix2 0 n) = ix2 (0 : Fin 1) n := by
    funext a; apply Fin.ext
    match a with
    | ⟨0, _⟩ => show win0_3.index t (0 : Fin 2) * 1 + 1 * 0 = 0; omega
    | ⟨1, _⟩ => show win0_3.index t (1 : Fin 2) * 3072 + 1 * n.val = n.val; omega
  show V m c main_v4 (((cfg0.win 3).blk t).view.emb (ix2 0 n)) = _
  rw [hemb]
  entry_read
  exact row_apply _ _ _

theorem blk4 (c : Dev nD) (t : Fin cfg0.N) (r : Fin 256) (n : Fin 3072) :
    iblk m c 4 t (ix2 r n) = m ((c : Thread nD τ).loc main_arg4) (ix2 (pos t r) n) := by
  obtain ⟨e0, e1⟩ := at4 t
  show V m c main_arg4 (((cfg0.win 4).blk t).view.emb (ix2 r n)) = _
  rw [V_main_arg4]
  refine congrArg _ (funext fun a => Fin.ext ?_)
  match a with
  | ⟨0, _⟩ => show win0_4.index t (0 : Fin 2) * 256 + 1 * r.val = t.val / 8 * 256 + r.val; omega
  | ⟨1, _⟩ => show win0_4.index t (1 : Fin 2) * 3072 + 1 * n.val = n.val; omega

/-! ## The block functions at the arguments -/

/-- The entry of the block that holds entry `k` of a token. -/
theorem tokenAt_blk (c : Dev nD) (t : Fin cfg0.N) (r : Fin 256) (k : Fin 6144) :
    tokenAt (iblk m c 0 t) r (⟨8 * (k.val % 768 / 128) + k.val / 768, by omega⟩ : Fin 48) (⟨k.val % 128, by omega⟩ : Fin 128)
      = token (m ((c : Thread nD τ).loc main_arg0)) (batch t) (pos t r) k := by
  unfold tokenAt token
  refine (blk0 m c t _ _).trans (congrArg _ ?_)
  have ht := t_lt t
  funext a; apply Fin.ext
  match a with
  | ⟨0, _⟩ => rfl
  | ⟨1, _⟩ => show (48 * r.val + (8 * (k.val % 768 / 128) + k.val / 768)) % 8 = k.val / 768; omega
  | ⟨2, _⟩ => show (t.val / 8 * 1536 + (48 * r.val + (8 * (k.val % 768 / 128) + k.val / 768)) / 8) * 128 + k.val % 128 = (t.val / 8 * 256 + r.val) * 768 + k.val % 768; omega

theorem blockMax_blk (c : Dev nD) (t : Fin cfg0.N) (r : Fin 256) :
    blockMax (iblk m c 0 t) r = amax (m ((c : Thread nD τ).loc main_arg0)) (batch t) (pos t r) := by
  unfold blockMax amax
  apply le_antisymm
  · refine Finset.sup_le fun p _ => ?_
    have h := tokenAt_blk m c t r (⟨p.1.val % 8 * 768 + p.1.val / 8 * 128 + p.2.val, by omega⟩ : Fin 6144)
    have e : tokenAt (iblk m c 0 t) r p.1 p.2 = token (m ((c : Thread nD τ).loc main_arg0)) (batch t) (pos t r)
        (⟨p.1.val % 8 * 768 + p.1.val / 8 * 128 + p.2.val, by omega⟩ : Fin 6144) := by
      rw [← h]
      congr 1 <;> (apply Fin.ext; dsimp only; omega)
    rw [e]
    exact Finset.le_sup (f := fun k : Fin 6144 => absE (token (m ((c : Thread nD τ).loc main_arg0)) (batch t) (pos t r) k)) (Finset.mem_univ _)
  · have hle : ∀ p : Fin 48 × Fin 128, absE (tokenAt (iblk m c 0 t) r p.1 p.2)
        ≤ Finset.univ.sup fun p : Fin 48 × Fin 128 => absE (tokenAt (iblk m c 0 t) r p.1 p.2) := fun p =>
      Finset.le_sup (f := fun p : Fin 48 × Fin 128 => absE (tokenAt (iblk m c 0 t) r p.1 p.2)) (Finset.mem_univ p)
    refine Finset.sup_le fun k _ => ?_
    rw [← tokenAt_blk m c t r k]
    exact hle (⟨8 * (k.val % 768 / 128) + k.val / 768, by omega⟩, ⟨k.val % 128, by omega⟩)

/-- The scale and its reciprocal as the kernel takes them, of the largest absolute value of a token. -/
def scaleK (a : EReal) : EReal := scaleS (F := Ideal) (expoS (F := Ideal) a)
def invK (a : EReal) : EReal := invS (F := Ideal) (expoS (F := Ideal) a)
def clipK (h v : EReal) : EReal := clipS (F := Ideal) h v

theorem codeG_eq (x0 : Vec Ideal S12288x128 .bf16) (z : Fin 1) (r : Fin 256) (k : Fin 6144) :
    codeG x0 (ix3 z r k) = clipK (tokenAt x0 r (⟨8 * (k.val % 768 / 128) + k.val / 768, by omega⟩ : Fin 48) (⟨k.val % 128, by omega⟩ : Fin 128)) (invK (blockMax x0 r)) := rfl

theorem scaleG_eq (x0 : Vec Ideal S12288x128 .bf16) (r : Fin 256) (l : Fin 128) :
    scaleG x0 (ix2 r l) = scaleK (blockMax x0 r) := rfl

theorem codeG_blk (c : Dev nD) (t : Fin cfg0.N) (z : Fin 1) (r : Fin 256) (k : Fin 6144) :
    codeG (iblk m c 0 t) (ix3 z r k) = codes invK clipK (m ((c : Thread nD τ).loc main_arg0)) (ix3 (batch t) (pos t r) k) := by
  refine (codeG_eq _ _ _ _).trans ?_
  rw [blockMax_blk, tokenAt_blk]
  rfl

theorem scaleG_blk (c : Dev nD) (t : Fin cfg0.N) (r : Fin 256) (l : Fin 128) :
    scaleG (iblk m c 0 t) (ix2 r l) = scaleK (amax (m ((c : Thread nD τ).loc main_arg0)) (batch t) (pos t r)) := by
  refine (scaleG_eq _ _ _).trans ?_
  rw [blockMax_blk]

/-! ## What each point writes back -/

theorem cut5 (c : Dev nD) (t : Fin cfg0.N) (G : Vec Ideal S8x2048x3072 .bf16) (X : Vec Ideal S1x256x3072 .bf16)
    (h : ∀ (z : Fin 1) (r : Fin 256) (n : Fin 3072), X (ix3 z r n) = G (ix3 (batch t) (pos t r) n)) :
    (cfg0.win 5).cut (grid0.coords t) X = ((cfg0.win 5).blk t).view.read (Elt Ideal) G := by
  obtain ⟨e0, e1, e2⟩ := at5 t
  funext y
  obtain ⟨z, r, n, rfl⟩ : ∃ (z : Fin 1) (r : Fin 256) (n : Fin 3072), y = ix3 z r n := ⟨y 0, y 1, y 2, eq_ix3 y⟩
  show X (ix3 z r n) = G (((cfg0.win 5).blk t).view.emb (ix3 z r n))
  rw [h]
  refine congrArg G (funext fun a => Fin.ext ?_)
  match a with
  | ⟨0, _⟩ => show t.val % 8 = win0_5.index t (0 : Fin 3) * 1 + 1 * z.val; omega
  | ⟨1, _⟩ => show t.val / 8 * 256 + r.val = win0_5.index t (1 : Fin 3) * 256 + 1 * r.val; omega
  | ⟨2, _⟩ => show n.val = win0_5.index t (2 : Fin 3) * 3072 + 1 * n.val; omega

theorem cut6 (c : Dev nD) (t : Fin cfg0.N) (G : Vec Ideal S8x2048x6144 .fp8e4m3) (X : Vec Ideal S1x256x6144 .fp8e4m3)
    (h : ∀ (z : Fin 1) (r : Fin 256) (n : Fin 6144), X (ix3 z r n) = G (ix3 (batch t) (pos t r) n)) :
    (cfg0.win 6).cut (grid0.coords t) X = ((cfg0.win 6).blk t).view.read (Elt Ideal) G := by
  obtain ⟨e0, e1, e2⟩ := at6 t
  funext y
  obtain ⟨z, r, n, rfl⟩ : ∃ (z : Fin 1) (r : Fin 256) (n : Fin 6144), y = ix3 z r n := ⟨y 0, y 1, y 2, eq_ix3 y⟩
  show X (ix3 z r n) = G (((cfg0.win 6).blk t).view.emb (ix3 z r n))
  rw [h]
  refine congrArg G (funext fun a => Fin.ext ?_)
  match a with
  | ⟨0, _⟩ => show t.val % 8 = win0_6.index t (0 : Fin 3) * 1 + 1 * z.val; omega
  | ⟨1, _⟩ => show t.val / 8 * 256 + r.val = win0_6.index t (1 : Fin 3) * 256 + 1 * r.val; omega
  | ⟨2, _⟩ => show n.val = win0_6.index t (2 : Fin 3) * 6144 + 1 * n.val; omega

theorem cut7 (c : Dev nD) (t : Fin cfg0.N) (G : Vec Ideal S8x1x2048 .f32) (X : Vec Ideal S1x1x256 .f32)
    (h : ∀ (z z' : Fin 1) (r : Fin 256), X (ix3 z z' r) = G (ix3 (batch t) (0 : Fin 1) (pos t r))) :
    (cfg0.win 7).cut (grid0.coords t) X = ((cfg0.win 7).blk t).view.read (Elt Ideal) G := by
  obtain ⟨e0, e1, e2⟩ := at7 t
  funext y
  obtain ⟨z, z', r, rfl⟩ : ∃ (z z' : Fin 1) (r : Fin 256), y = ix3 z z' r := ⟨y 0, y 1, y 2, eq_ix3 y⟩
  show X (ix3 z z' r) = G (((cfg0.win 7).blk t).view.emb (ix3 z z' r))
  rw [h]
  refine congrArg G (funext fun a => Fin.ext ?_)
  match a with
  | ⟨0, _⟩ => show t.val % 8 = win0_7.index t (0 : Fin 3) * 1 + 1 * z.val; omega
  | ⟨1, _⟩ => show 0 = win0_7.index t (1 : Fin 3) * 1 + 1 * z'.val; omega
  | ⟨2, _⟩ => show t.val / 8 * 256 + r.val = win0_7.index t (2 : Fin 3) * 256 + 1 * r.val; omega

/-- The results as the kernel computes them. -/
def outK (c : Dev nD) : Vec Ideal S8x2048x3072 .bf16 :=
  out scaleK invK clipK (m ((c : Thread nD τ).loc main_arg0)) (m ((c : Thread nD τ).loc main_arg1)) (m ((c : Thread nD τ).loc main_arg2))
    (m ((c : Thread nD τ).loc main_arg3)) (m ((c : Thread nD τ).loc main_arg4))
def codesK (c : Dev nD) : Vec Ideal S8x2048x6144 .fp8e4m3 := codes invK clipK (m ((c : Thread nD τ).loc main_arg0))
def scalesK (c : Dev nD) : Vec Ideal S8x1x2048 .f32 := scales scaleK (m ((c : Thread nD τ).loc main_arg0))

theorem outG_blk (c : Dev nD) (t : Fin cfg0.N) (z : Fin 1) (r : Fin 256) (n : Fin 3072) :
    outG (iblk m c 0 t) (iblk m c 1 t) (iblk m c 2 t) (iblk m c 3 t) (iblk m c 4 t) (ix3 z r n) = outK m c (ix3 (batch t) (pos t r) n) := by
  show (∑ k : Fin 6144, codeG (iblk m c 0 t) (ix3 0 r k) * iblk m c 1 t (ix2 k n)) * scaleG (iblk m c 0 t) (ix2 r 0) * iblk m c 2 t (ix2 0 n)
    + iblk m c 3 t (ix2 0 n) + iblk m c 4 t (ix2 r n) = _
  rw [blk2, blk3, blk4, scaleG_blk]
  simp only [blk1, codeG_blk]
  rfl

theorem rowG_blk (c : Dev nD) (t : Fin cfg0.N) (z z' : Fin 1) (r : Fin 256) :
    rowG (iblk m c 0 t) (ix3 z z' r) = scalesK m c (ix3 (batch t) (0 : Fin 1) (pos t r)) :=
  (show rowG (iblk m c 0 t) (ix3 z z' r) = scaleG (iblk m c 0 t) (ix2 r 0) from rfl).trans ((scaleG_blk m c t r 0).trans rfl)

theorem outs5 (c : Dev nD) (t : Fin cfg0.N) :
    (outsAt0 m c t).1 = outG (iblk m c 0 t) (iblk m c 1 t) (iblk m c 2 t) (iblk m c 3 t) (iblk m c 4 t) := by
  unfold outsAt0; dsimp only; exact out_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t)
theorem outs6 (c : Dev nD) (t : Fin cfg0.N) : (outsAt0 m c t).2.1 = codeG (iblk m c 0 t) := by
  unfold outsAt0; dsimp only; exact out_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t)
theorem outs7 (c : Dev nD) (t : Fin cfg0.N) : (outsAt0 m c t).2.2 = rowG (iblk m c 0 t) := by
  unfold outsAt0; dsimp only; exact out_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t)

theorem flushed5 (c : Dev nD) (t : Fin cfg0.N) :
    (dats (F := Ideal) m 0 c).flushed 5 t = ((cfg0.win 5).blk t).view.read (Elt Ideal) (outK m c) := by
  show (cfg0.win 5).cut (grid0.coords t) ((dats (F := Ideal) m 0 c).after 5 t) = _
  rw [after0_5, outs5]
  exact cut5 c t _ _ (outG_blk m c t)

theorem flushed6 (c : Dev nD) (t : Fin cfg0.N) :
    (dats (F := Ideal) m 0 c).flushed 6 t = ((cfg0.win 6).blk t).view.read (Elt Ideal) (codesK m c) := by
  show (cfg0.win 6).cut (grid0.coords t) ((dats (F := Ideal) m 0 c).after 6 t) = _
  rw [after0_6, outs6]
  exact cut6 c t _ _ (codeG_blk m c t)

theorem flushed7 (c : Dev nD) (t : Fin cfg0.N) :
    (dats (F := Ideal) m 0 c).flushed 7 t = ((cfg0.win 7).blk t).view.read (Elt Ideal) (scalesK m c) := by
  show (cfg0.win 7).cut (grid0.coords t) ((dats (F := Ideal) m 0 c).after 7 t) = _
  rw [after0_7, outs7]
  exact cut7 c t _ _ (rowG_blk m c t)

/-! ## The arrays -/

/-- The grid point of batch `b` and of the stretch of 256 tokens that holds token `p`. -/
def pt (b : Fin 8) (p : Fin 2048) : Fin cfg0.N := ⟨p.val / 256 * 8 + b.val, by show _ < 64; omega⟩

theorem cover5 (y : S8x2048x3072.Idx) : ∃ t : Fin cfg0.N, (cfg0.win 5).flush t = true ∧ y ∈ ((cfg0.win 5).blk t).view.set := by
  refine ⟨pt (y 0) (y 1), flush0_5 _, ?_⟩
  obtain ⟨e0, e1, e2⟩ := at5 (pt (y 0) (y 1))
  have h0 : (y 0).val < 8 := (y 0).isLt
  have h1 : (y 1).val < 2048 := (y 1).isLt
  have h2 : (y 2).val < 3072 := (y 2).isLt
  have hp : (pt (y 0) (y 1)).val = (y 1).val / 256 * 8 + (y 0).val := rfl
  show y ∈ ((View.whole main_v5_0).slice (win0_5.rect (pt (y 0) (y 1)))).set
  rw [View.set_slice_whole, Rect.mem_set_unit]
  intro a
  match a with
  | ⟨0, _⟩ => show win0_5.index (pt (y 0) (y 1)) (0 : Fin 3) * 1 ≤ (y 0).val ∧ (y 0).val < win0_5.index (pt (y 0) (y 1)) (0 : Fin 3) * 1 + 1; omega
  | ⟨1, _⟩ => show win0_5.index (pt (y 0) (y 1)) (1 : Fin 3) * 256 ≤ (y 1).val ∧ (y 1).val < win0_5.index (pt (y 0) (y 1)) (1 : Fin 3) * 256 + 256; omega
  | ⟨2, _⟩ => show win0_5.index (pt (y 0) (y 1)) (2 : Fin 3) * 3072 ≤ (y 2).val ∧ (y 2).val < win0_5.index (pt (y 0) (y 1)) (2 : Fin 3) * 3072 + 3072; omega

theorem cover6 (y : S8x2048x6144.Idx) : ∃ t : Fin cfg0.N, (cfg0.win 6).flush t = true ∧ y ∈ ((cfg0.win 6).blk t).view.set := by
  refine ⟨pt (y 0) (y 1), flush0_6 _, ?_⟩
  obtain ⟨e0, e1, e2⟩ := at6 (pt (y 0) (y 1))
  have h0 : (y 0).val < 8 := (y 0).isLt
  have h1 : (y 1).val < 2048 := (y 1).isLt
  have h2 : (y 2).val < 6144 := (y 2).isLt
  have hp : (pt (y 0) (y 1)).val = (y 1).val / 256 * 8 + (y 0).val := rfl
  show y ∈ ((View.whole main_v5_1).slice (win0_6.rect (pt (y 0) (y 1)))).set
  rw [View.set_slice_whole, Rect.mem_set_unit]
  intro a
  match a with
  | ⟨0, _⟩ => show win0_6.index (pt (y 0) (y 1)) (0 : Fin 3) * 1 ≤ (y 0).val ∧ (y 0).val < win0_6.index (pt (y 0) (y 1)) (0 : Fin 3) * 1 + 1; omega
  | ⟨1, _⟩ => show win0_6.index (pt (y 0) (y 1)) (1 : Fin 3) * 256 ≤ (y 1).val ∧ (y 1).val < win0_6.index (pt (y 0) (y 1)) (1 : Fin 3) * 256 + 256; omega
  | ⟨2, _⟩ => show win0_6.index (pt (y 0) (y 1)) (2 : Fin 3) * 6144 ≤ (y 2).val ∧ (y 2).val < win0_6.index (pt (y 0) (y 1)) (2 : Fin 3) * 6144 + 6144; omega

theorem cover7 (y : S8x1x2048.Idx) : ∃ t : Fin cfg0.N, (cfg0.win 7).flush t = true ∧ y ∈ ((cfg0.win 7).blk t).view.set := by
  refine ⟨pt (y 0) (y 2), flush0_7 _, ?_⟩
  obtain ⟨e0, e1, e2⟩ := at7 (pt (y 0) (y 2))
  have h0 : (y 0).val < 8 := (y 0).isLt
  have h1 : (y 1).val < 1 := (y 1).isLt
  have h2 : (y 2).val < 2048 := (y 2).isLt
  have hp : (pt (y 0) (y 2)).val = (y 2).val / 256 * 8 + (y 0).val := rfl
  show y ∈ ((View.whole main_v5_2).slice (win0_7.rect (pt (y 0) (y 2)))).set
  rw [View.set_slice_whole, Rect.mem_set_unit]
  intro a
  match a with
  | ⟨0, _⟩ => show win0_7.index (pt (y 0) (y 2)) (0 : Fin 3) * 1 ≤ (y 0).val ∧ (y 0).val < win0_7.index (pt (y 0) (y 2)) (0 : Fin 3) * 1 + 1; omega
  | ⟨1, _⟩ => show win0_7.index (pt (y 0) (y 2)) (1 : Fin 3) * 1 ≤ (y 1).val ∧ (y 1).val < win0_7.index (pt (y 0) (y 2)) (1 : Fin 3) * 1 + 1; omega
  | ⟨2, _⟩ => show win0_7.index (pt (y 0) (y 2)) (2 : Fin 3) * 256 ≤ (y 2).val ∧ (y 2).val < win0_7.index (pt (y 0) (y 2)) (2 : Fin 3) * 256 + 256; omega

theorem final5 (c : Dev nD) : (dats (F := Ideal) m 0 c).arrAt 5 cfg0.N = outK m c :=
  (dats (F := Ideal) m 0 c).arrAt_eq_of_cover 5 (outK m c) (fun t _ => flushed5 m c t) cover5
theorem final6 (c : Dev nD) : (dats (F := Ideal) m 0 c).arrAt 6 cfg0.N = codesK m c :=
  (dats (F := Ideal) m 0 c).arrAt_eq_of_cover 6 (codesK m c) (fun t _ => flushed6 m c t) cover6
theorem final7 (c : Dev nD) : (dats (F := Ideal) m 0 c).arrAt 7 cfg0.N = scalesK m c :=
  (dats (F := Ideal) m 0 c).arrAt_eq_of_cover 7 (scalesK m c) (fun t _ => flushed7 m c t) cover7

/-- The run: the three results, and the arguments as they were. -/
theorem run_value : θ_run (defs (F := Ideal)) (onTc (τ := τ) (main (F := Ideal))) ⟨m, fun _ => 0, ρ⟩ (fun r => ∀ c : Dev nD,
      (r.2.mem ((c.tc : Thread nD τ).loc main_v5_0) = outK m c
      ∧ r.2.mem ((c.tc : Thread nD τ).loc main_v5_1) = codesK m c
      ∧ r.2.mem ((c.tc : Thread nD τ).loc main_v5_2) = scalesK m c)) :=
  (θ_run defs _ _).mono (fun _ h c => ⟨((h c).1 5).trans (final5 m c), ((h c).1 6).trans (final6 m c), ((h c).1 7).trans (final7 m c)⟩)
    (run_main (F := Ideal) m ρ)

end Cert.KernelIdeal.Hand

end
-- ==== Proof.RefIdeal.lean ====
/- What the reference's host operations compute before its one region: the tokens, the scale of each and the scaled and
   clipped tokens. -/
module

public import proofs.«01_k».proof.Proof.Gen.ReferenceIdeal.Value
public import proofs.«01_k».proof.Proof.SpecIdeal
public import Idealize.ShloMosaic.Lib.Claim
public import Idealize.ShloMosaic.Lib.Pointwise

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic Idealize.ShloMosaic.Pointwise
open Idealize.SL.Sem Cert.Spec

section
variable {F : FTy → Type} [FloatOps F]

/-- A constant in every place of the column of one value a token. -/
def colC (v : BitVec 32) : FVec F S8x2048x1 .f32 := broadcastInDim S8x2048x1 ![] bcast_S_S8x2048x1 (constant S_ .f32 v)

def tokV (x : FVec F S8x8x1572864 .bf16) : FVec F S8x2048x6144 .f32 :=
  extf .f32 (shapeCast S8x2048x6144 (transpose S8x2048x8x768 [0, 2, 1, 3] (shapeCast S8x8x2048x768 x shapeCasts_S8x8x1572864_S8x8x2048x768)
    transposes_S8x8x2048x768_S8x2048x8x768_0_2_1_3) shapeCasts_S8x2048x8x768_S8x2048x6144) bitsLt_bf16_f32

def maxOf (y : FVec F S8x2048x6144 .f32) : FVec F S8x2048 .f32 :=
  Host.reduce FloatOps.maximumf (Host.absf y) (constant S_ .f32 0xFF800000#32) reducesTo_S8x2048x6144_S8x2048_d2 h_S_

def maxV (x : FVec F S8x8x1572864 .bf16) : FVec F S8x2048 .f32 := maxOf (tokV x)

def ratioV (x : FVec F S8x8x1572864 .bf16) : FVec F S8x2048x1 .f32 :=
  mulf (broadcastInDim S8x2048x1 ![0, 1] bcast_S8x2048_S8x2048x1_0_1 (maxV x)) (colC 0x3B124925#32)

def exponentV (r : FVec F S8x2048x1 .f32) : FVec F S8x2048x1 .f32 :=
  select (ori (cmpf .olt r (colC 0x00800000#32)) (cmpf .oeq r (colC 0x7F800000#32))) (colC 0x00000000#32)
    (addf (Host.floor (Host.divf (Host.log r) (broadcastInDim S8x2048x1 ![] bcast_S_S8x2048x1 (Host.log (constant S_ .f32 0x40000000#32)))))
      (colC 0x3F800000#32))

def scaleVec (x : FVec F S8x8x1572864 .bf16) : FVec F S8x2048x1 .f32 := Host.powf (colC 0x40000000#32) (exponentV (ratioV x))

def clipVec (x : FVec F S8x8x1572864 .bf16) : FVec F S8x2048x6144 .f32 :=
  minimumf (broadcastInDim S8x2048x6144 ![] bcast_S_S8x2048x6144 (constant S_ .f32 0x43E00000#32))
    (maximumf (broadcastInDim S8x2048x6144 ![] bcast_S_S8x2048x6144 (constant S_ .f32 0xC3E00000#32))
      (mulf (tokV x) (broadcastInDim S8x2048x6144 ![0, 1, 2] bcast_S8x2048x1_S8x2048x6144_0_1_2
        (Host.powf (colC 0x40000000#32) (Host.negf (exponentV (ratioV x)))))))

variable (m : (ℓ : Loc nD τ sig) → Buf (Elt F) ℓ)

theorem scale_entry (c : Dev nD) : V m c main_v23 = scaleVec (m ((c : Thread nD τ).loc main_arg0)) := by
  show StableHlo.after [hostOps0, hostOps0_1, hostOps0_2, hostOps0_3, hostOps0_4].flatten (fun b => m (c, b)) (Proc.tc.devRef main_v23) = _
  unfold hostOps0 hostOps0_1 hostOps0_2 hostOps0_3 hostOps0_4
  simp only [List.flatten_cons, List.flatten_nil, List.cons_append, List.nil_append, List.append_nil]
  entry_read
  rfl

theorem row_entry (c : Dev nD) : V m c main_v30 = shapeCast S8x1x2048 (scaleVec (m ((c : Thread nD τ).loc main_arg0))) shapeCasts_S8x2048x1_S8x1x2048 := by
  show StableHlo.after [hostOps0, hostOps0_1, hostOps0_2, hostOps0_3, hostOps0_4].flatten (fun b => m (c, b)) (Proc.tc.devRef main_v30) = _
  unfold hostOps0 hostOps0_1 hostOps0_2 hostOps0_3 hostOps0_4
  simp only [List.flatten_cons, List.flatten_nil, List.cons_append, List.nil_append, List.append_nil]
  entry_read
  rfl

theorem clip_entry (c : Dev nD) : V m c main_v29 = clipVec (m ((c : Thread nD τ).loc main_arg0)) := by
  show StableHlo.after [hostOps0, hostOps0_1, hostOps0_2, hostOps0_3, hostOps0_4].flatten (fun b => m (c, b)) (Proc.tc.devRef main_v29) = _
  unfold hostOps0 hostOps0_1 hostOps0_2 hostOps0_3 hostOps0_4
  simp only [List.flatten_cons, List.flatten_nil, List.cons_append, List.nil_append, List.append_nil]
  entry_read
  rfl

end

end Cert.ReferenceIdeal.Hand

end
-- ==== Proof.RefRun.lean ====
/- The reference's two results of its region as functions of the arguments. -/
module

public import proofs.«01_k».proof.Proof.RefIdeal

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic Idealize.ShloMosaic.Pointwise
open Idealize.SL.Sem Cert.Spec

section
variable {F : FTy → Type} [FloatOps F]
variable (m : (ℓ : Loc nD τ sig) → Buf (Elt F) ℓ)

/-! Each window's block at the one grid point is its whole array. -/

theorem at0 : ∀ t : Fin cfg0.N, win0_0.index t (0 : Fin 3) = 0 ∧ win0_0.index t (1 : Fin 3) = 0 ∧ win0_0.index t (2 : Fin 3) = 0 :=
  (by decide +kernel : ∀ t : Fin grid0.N, _)
theorem emb0 (t : Fin cfg0.N) (y : S8x2048x6144.Idx) : ((cfg0.win 0).blk t).view.emb y = y := by
  obtain ⟨e0, e1, e2⟩ := at0 t
  funext a; apply Fin.ext
  match a with
  | ⟨0, _⟩ => show win0_0.index t (0 : Fin 3) * 8 + 1 * (y 0).val = (y 0).val; omega
  | ⟨1, _⟩ => show win0_0.index t (1 : Fin 3) * 2048 + 1 * (y 1).val = (y 1).val; omega
  | ⟨2, _⟩ => show win0_0.index t (2 : Fin 3) * 6144 + 1 * (y 2).val = (y 2).val; omega
theorem iblk0 (c : Dev nD) (t : Fin cfg0.N) : iblk m c 0 t = V m c main_v29 := by
  funext y; show V m c main_v29 (((cfg0.win 0).blk t).view.emb y) = V m c main_v29 y; rw [emb0]

theorem at1 : ∀ t : Fin cfg0.N, win0_1.index t (0 : Fin 3) = 0 ∧ win0_1.index t (1 : Fin 3) = 0 ∧ win0_1.index t (2 : Fin 3) = 0 :=
  (by decide +kernel : ∀ t : Fin grid0.N, _)
theorem emb1 (t : Fin cfg0.N) (y : S8x2048x1.Idx) : ((cfg0.win 1).blk t).view.emb y = y := by
  obtain ⟨e0, e1, e2⟩ := at1 t
  funext a; apply Fin.ext
  match a with
  | ⟨0, _⟩ => show win0_1.index t (0 : Fin 3) * 8 + 1 * (y 0).val = (y 0).val; omega
  | ⟨1, _⟩ => show win0_1.index t (1 : Fin 3) * 2048 + 1 * (y 1).val = (y 1).val; omega
  | ⟨2, _⟩ => show win0_1.index t (2 : Fin 3) * 1 + 1 * (y 2).val = (y 2).val; omega
theorem iblk1 (c : Dev nD) (t : Fin cfg0.N) : iblk m c 1 t = V m c main_v23 := by
  funext y; show V m c main_v23 (((cfg0.win 1).blk t).view.emb y) = V m c main_v23 y; rw [emb1]

theorem at2 : ∀ t : Fin cfg0.N, win0_2.index t (0 : Fin 2) = 0 ∧ win0_2.index t (1 : Fin 2) = 0 :=
  (by decide +kernel : ∀ t : Fin grid0.N, _)
theorem emb2 (t : Fin cfg0.N) (y : S6144x3072.Idx) : ((cfg0.win 2).blk t).view.emb y = y := by
  obtain ⟨e0, e1⟩ := at2 t
  funext a; apply Fin.ext
  match a with
  | ⟨0, _⟩ => show win0_2.index t (0 : Fin 2) * 6144 + 1 * (y 0).val = (y 0).val; omega
  | ⟨1, _⟩ => show win0_2.index t (1 : Fin 2) * 3072 + 1 * (y 1).val = (y 1).val; omega
theorem iblk2 (c : Dev nD) (t : Fin cfg0.N) : iblk m c 2 t = V m c main_arg1 := by
  funext y; show V m c main_arg1 (((cfg0.win 2).blk t).view.emb y) = V m c main_arg1 y; rw [emb2]

theorem at3 : ∀ t : Fin cfg0.N, win0_3.index t (0 : Fin 1) = 0 :=
  (by decide +kernel : ∀ t : Fin grid0.N, _)
theorem emb3 (t : Fin cfg0.N) (y : S3072.Idx) : ((cfg0.win 3).blk t).view.emb y = y := by
  have e0 := at3 t
  funext a; apply Fin.ext
  match a with
  | ⟨0, _⟩ => show win0_3.index t (0 : Fin 1) * 3072 + 1 * (y 0).val = (y 0).val; omega
theorem iblk3 (c : Dev nD) (t : Fin cfg0.N) : iblk m c 3 t = V m c main_arg2 := by
  funext y; show V m c main_arg2 (((cfg0.win 3).blk t).view.emb y) = V m c main_arg2 y; rw [emb3]

theorem at4 : ∀ t : Fin cfg0.N, win0_4.index t (0 : Fin 1) = 0 :=
  (by decide +kernel : ∀ t : Fin grid0.N, _)
theorem emb4 (t : Fin cfg0.N) (y : S3072.Idx) : ((cfg0.win 4).blk t).view.emb y = y := by
  have e0 := at4 t
  funext a; apply Fin.ext
  match a with
  | ⟨0, _⟩ => show win0_4.index t (0 : Fin 1) * 3072 + 1 * (y 0).val = (y 0).val; omega
theorem iblk4 (c : Dev nD) (t : Fin cfg0.N) : iblk m c 4 t = V m c main_arg3 := by
  funext y; show V m c main_arg3 (((cfg0.win 4).blk t).view.emb y) = V m c main_arg3 y; rw [emb4]

theorem at5 : ∀ t : Fin cfg0.N, win0_5.index t (0 : Fin 2) = 0 ∧ win0_5.index t (1 : Fin 2) = 0 :=
  (by decide +kernel : ∀ t : Fin grid0.N, _)
theorem emb5 (t : Fin cfg0.N) (y : S2048x3072.Idx) : ((cfg0.win 5).blk t).view.emb y = y := by
  obtain ⟨e0, e1⟩ := at5 t
  funext a; apply Fin.ext
  match a with
  | ⟨0, _⟩ => show win0_5.index t (0 : Fin 2) * 2048 + 1 * (y 0).val = (y 0).val; omega
  | ⟨1, _⟩ => show win0_5.index t (1 : Fin 2) * 3072 + 1 * (y 1).val = (y 1).val; omega
theorem iblk5 (c : Dev nD) (t : Fin cfg0.N) : iblk m c 5 t = V m c main_arg4 := by
  funext y; show V m c main_arg4 (((cfg0.win 5).blk t).view.emb y) = V m c main_arg4 y; rw [emb5]

theorem at6 : ∀ t : Fin cfg0.N, win0_6.index t (0 : Fin 3) = 0 ∧ win0_6.index t (1 : Fin 3) = 0 ∧ win0_6.index t (2 : Fin 3) = 0 :=
  (by decide +kernel : ∀ t : Fin grid0.N, _)
theorem emb6 (t : Fin cfg0.N) (y : S8x2048x3072.Idx) : ((cfg0.win 6).blk t).view.emb y = y := by
  obtain ⟨e0, e1, e2⟩ := at6 t
  funext a; apply Fin.ext
  match a with
  | ⟨0, _⟩ => show win0_6.index t (0 : Fin 3) * 8 + 1 * (y 0).val = (y 0).val; omega
  | ⟨1, _⟩ => show win0_6.index t (1 : Fin 3) * 2048 + 1 * (y 1).val = (y 1).val; omega
  | ⟨2, _⟩ => show win0_6.index t (2 : Fin 3) * 3072 + 1 * (y 2).val = (y 2).val; omega
theorem cut6 (t : Fin cfg0.N) (X : Vec F S8x2048x3072 .bf16) :
    (cfg0.win 6).cut (grid0.coords t) X = ((cfg0.win 6).blk t).view.read (Elt F) X := by
  funext y; show X y = X (((cfg0.win 6).blk t).view.emb y); rw [emb6]

theorem at7 : ∀ t : Fin cfg0.N, win0_7.index t (0 : Fin 3) = 0 ∧ win0_7.index t (1 : Fin 3) = 0 ∧ win0_7.index t (2 : Fin 3) = 0 :=
  (by decide +kernel : ∀ t : Fin grid0.N, _)
theorem emb7 (t : Fin cfg0.N) (y : S8x2048x6144.Idx) : ((cfg0.win 7).blk t).view.emb y = y := by
  obtain ⟨e0, e1, e2⟩ := at7 t
  funext a; apply Fin.ext
  match a with
  | ⟨0, _⟩ => show win0_7.index t (0 : Fin 3) * 8 + 1 * (y 0).val = (y 0).val; omega
  | ⟨1, _⟩ => show win0_7.index t (1 : Fin 3) * 2048 + 1 * (y 1).val = (y 1).val; omega
  | ⟨2, _⟩ => show win0_7.index t (2 : Fin 3) * 6144 + 1 * (y 2).val = (y 2).val; omega
theorem cut7 (t : Fin cfg0.N) (X : Vec F S8x2048x6144 .fp8e4m3) :
    (cfg0.win 7).cut (grid0.coords t) X = ((cfg0.win 7).blk t).view.read (Elt F) X := by
  funext y; show X y = X (((cfg0.win 7).blk t).view.emb y); rw [emb7]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

theorem out0_6_eq (x0 : Vec F S8x2048x6144 .f32) (x1 : Vec F S8x2048x1 .f32) (x2 : Vec F S6144x3072 .fp8e4m3) (x3 x4 : Vec F S3072 .f32) (x5 : Vec F S2048x3072 .bf16) :
    out0_6 x0 x1 x2 x3 x4 x5 = k0_pay2 x0 x2 x1 x3 x4 x5 := by
  unfold out0_6
  rw [View.canon_unit_zero hz3, View.ld_unit_zero hz3, View.ld_unit_zero hz2, View.ld_unit_zero hz3, View.ld_unit_zero hz1, View.ld_unit_zero hz1, View.ld_unit_zero hz2]

theorem out0_7_eq (x0 : Vec F S8x2048x6144 .f32) (x1 : Vec F S8x2048x1 .f32) (x2 : Vec F S6144x3072 .fp8e4m3) (x3 x4 : Vec F S3072 .f32) (x5 : Vec F S2048x3072 .bf16) :
    out0_7 x0 x1 x2 x3 x4 x5 = k0_pay1 x0 := by
  unfold out0_7
  rw [View.canon_unit_zero hz3, View.ld_unit_zero hz3]

theorem final6 (c : Dev nD) : (dats m 0 c).arrAt 6 cfg0.N
    = k0_pay2 (clipVec (m ((c : Thread nD τ).loc main_arg0))) (m ((c : Thread nD τ).loc main_arg1)) (scaleVec (m ((c : Thread nD τ).loc main_arg0)))
        (m ((c : Thread nD τ).loc main_arg2)) (m ((c : Thread nD τ).loc main_arg3)) (m ((c : Thread nD τ).loc main_arg4)) := by
  refine (dats m 0 c).arrAt_eq_of_cover 6 _ (fun t _ => ?_) (fun y => ?_)
  · rw [flushed6, out0_6_eq, iblk0, iblk1, iblk2, iblk3, iblk4, iblk5, V_main_arg1, V_main_arg2, V_main_arg3, V_main_arg4, scale_entry, clip_entry]
    exact cut6 t _
  · refine ⟨⟨0, by decide⟩, flush0_6 _, ?_⟩
    have h := ((cfg0.win 6).blk (⟨0, by decide⟩ : Fin cfg0.N)).view.emb_mem_set y
    rwa [emb6] at h

theorem final7 (c : Dev nD) : (dats m 0 c).arrAt 7 cfg0.N = k0_pay1 (clipVec (m ((c : Thread nD τ).loc main_arg0))) := by
  refine (dats m 0 c).arrAt_eq_of_cover 7 _ (fun t _ => ?_) (fun y => ?_)
  · rw [Cert.ReferenceIdeal.Value.flushed7, out0_7_eq, iblk0, clip_entry]
    exact cut7 t _
  · refine ⟨⟨0, by decide⟩, flush0_7 _, ?_⟩
    have h := ((cfg0.win 7).blk (⟨0, by decide⟩ : Fin cfg0.N)).view.emb_mem_set y
    rwa [emb7] at h

end

end Cert.ReferenceIdeal.Hand

end
-- ==== Proof.RefValue.lean ====
/- The reference's results, entry by entry, on extended reals. -/
module

public import proofs.«01_k».proof.Proof.RefRun

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic Idealize.ShloMosaic.Pointwise
open Idealize.SL.Sem Cert.Spec Cert.KernelIdeal.Hand

theorem tokV_apply (x : Vec Ideal S8x8x1572864 .bf16) (b : Fin 8) (p : Fin 2048) (k : Fin 6144) :
    tokV (F := Ideal) x (ix3 b p k) = token x b p k := by
  unfold tokV token
  pointwise

theorem max_fold (y : Vec Ideal S8x2048x6144 .f32) (b : Fin 8) (p : Fin 2048) :
    maxOf (F := Ideal) y (ix2 b p)
      = (Finset.univ : Finset (Fin 6144)).fold max (Ideal.ofBits .f32 0xFF800000#32) fun k => FloatOps.absf (F := Ideal) (φ := .f32) (y (ix3 b p k)) := by
  unfold maxOf
  pointwise

theorem fold_sup {n : ℕ} (f : Fin n → EReal) : (Finset.univ : Finset (Fin n)).fold max ⊥ f = Finset.univ.sup f :=
  eq_of_forall_ge_iff fun c => by
    rw [Finset.fold_max_le, Finset.sup_le_iff]
    exact and_iff_right bot_le

theorem maxV_apply (x : Vec Ideal S8x8x1572864 .bf16) (b : Fin 8) (p : Fin 2048) :
    maxV (F := Ideal) x (ix2 b p) = amax x b p := by
  unfold maxV
  refine (max_fold _ b p).trans ?_
  rw [negInf, fold_sup]
  unfold amax
  refine Finset.sup_congr rfl fun k _ => ?_
  rw [tokV_apply]
  rfl

/-- The scale of a token, its exponent and its reciprocal, and the clipping, as the reference takes them. -/
def ratioS (a : EReal) : EReal := a * Ideal.ofBits .f32 0x3B124925#32
section
variable {F : FTy → Type} [FloatOps F]
def exponentS (r : F .f32) : F .f32 := exponentV (fun _ => r) (ix3 0 0 0)
theorem exponentV_apply (r : FVec F S8x2048x1 .f32) (b : Fin 8) (p : Fin 2048) (q : Fin 1) :
    exponentV r (ix3 b p q) = exponentS (r (ix3 b p q)) := by
  unfold exponentS exponentV colC
  pointwise
end

theorem ratio_of (y : Vec Ideal S8x2048 .f32) (b : Fin 8) (p : Fin 2048) (q : Fin 1) :
    mulf (F := Ideal) (broadcastInDim S8x2048x1 ![0, 1] bcast_S8x2048_S8x2048x1_0_1 y) (colC 0x3B124925#32) (ix3 b p q) = ratioS (y (ix2 b p)) := by
  unfold colC ratioS
  pointwise

theorem ratioV_apply (x : Vec Ideal S8x8x1572864 .bf16) (b : Fin 8) (p : Fin 2048) (q : Fin 1) :
    ratioV (F := Ideal) x (ix3 b p q) = ratioS (amax x b p) := by
  unfold ratioV
  exact (ratio_of _ b p q).trans (congrArg ratioS (maxV_apply x b p))

theorem pay2_apply (v0 : Vec Ideal S8x2048x6144 .f32) (v6 : Vec Ideal S6144x3072 .fp8e4m3) (v10 : Vec Ideal S8x2048x1 .f32)
    (v14 v18 : Vec Ideal S3072 .f32) (v22 : Vec Ideal S2048x3072 .bf16) (b : Fin 8) (p : Fin 2048) (n : Fin 3072) :
    k0_pay2 v0 v6 v10 v14 v18 v22 (ix3 b p n) = (∑ k : Fin 6144, v0 (ix3 b p k) * v6 (ix2 k n)) * v10 (ix3 b p 0) * v14 (ix1 n)
      + v18 (ix1 n) + v22 (ix2 p n) := by
  unfold k0_pay2 k0_pay1
  pointwise

section
variable {F : FTy → Type} [FloatOps F]
def pow2S (e : F .f32) : F .f32 := Host.powf (colC 0x40000000#32) (fun _ => e) (ix3 0 0 0)
def negS (e : F .f32) : F .f32 := Host.negf (s := S8x2048x1) (fun _ => e) (ix3 0 0 0)
theorem pow2_apply (e : FVec F S8x2048x1 .f32) (b : Fin 8) (p : Fin 2048) (q : Fin 1) :
    Host.powf (colC 0x40000000#32) e (ix3 b p q) = pow2S (e (ix3 b p q)) := by
  unfold pow2S colC
  pointwise
theorem neg_apply (e : FVec F S8x2048x1 .f32) (b : Fin 8) (p : Fin 2048) (q : Fin 1) :
    Host.negf e (ix3 b p q) = negS (e (ix3 b p q)) := by
  unfold negS
  pointwise
end

def scaleR (a : EReal) : EReal := pow2S (F := Ideal) (exponentS (F := Ideal) (ratioS a))
def invR (a : EReal) : EReal := pow2S (F := Ideal) (negS (F := Ideal) (exponentS (F := Ideal) (ratioS a)))
def clipR (h v : EReal) : EReal :=
  min (Ideal.ofBits .f32 0x43E00000#32) (max (Ideal.ofBits .f32 0xC3E00000#32) (h * v))

theorem scaleVec_apply (x : Vec Ideal S8x8x1572864 .bf16) (b : Fin 8) (p : Fin 2048) (q : Fin 1) :
    scaleVec (F := Ideal) x (ix3 b p q) = scaleR (amax x b p) := by
  unfold scaleVec scaleR
  rw [pow2_apply, exponentV_apply, ratioV_apply]

theorem clip_of (y : Vec Ideal S8x2048x6144 .f32) (v : Vec Ideal S8x2048x1 .f32) (b : Fin 8) (p : Fin 2048) (k : Fin 6144) :
    minimumf (F := Ideal) (broadcastInDim S8x2048x6144 ![] bcast_S_S8x2048x6144 (constant S_ .f32 0x43E00000#32))
      (maximumf (broadcastInDim S8x2048x6144 ![] bcast_S_S8x2048x6144 (constant S_ .f32 0xC3E00000#32))
        (mulf y (broadcastInDim S8x2048x6144 ![0, 1, 2] bcast_S8x2048x1_S8x2048x6144_0_1_2 v))) (ix3 b p k)
      = clipR (y (ix3 b p k)) (v (ix3 b p 0)) := by
  unfold clipR
  pointwise

theorem clipVec_apply (x : Vec Ideal S8x8x1572864 .bf16) (b : Fin 8) (p : Fin 2048) (k : Fin 6144) :
    clipVec (F := Ideal) x (ix3 b p k) = codes invR clipR x (ix3 b p k) := by
  unfold clipVec
  refine (clip_of _ _ b p k).trans ?_
  rw [pow2_apply, neg_apply, exponentV_apply, ratioV_apply, tokV_apply]
  rfl

theorem row_of (y : Vec Ideal S8x2048x1 .f32) (b : Fin 8) (z : Fin 1) (p : Fin 2048) :
    (shapeCast S8x1x2048 y shapeCasts_S8x2048x1_S8x1x2048 : Vec Ideal S8x1x2048 .f32) (ix3 b z p) = y (ix3 b p 0) := by
  pointwise

theorem pay1_apply (v0 : Vec Ideal S8x2048x6144 .f32) (b : Fin 8) (p : Fin 2048) (k : Fin 6144) :
    k0_pay1 v0 (ix3 b p k) = v0 (ix3 b p k) := by
  unfold k0_pay1
  pointwise

variable (m : (ℓ : Loc nD τ sig) → Buf (Elt Ideal) ℓ) (ρ : Dev nD → PrngReg)

/-- The results as the reference computes them. -/
def outR (c : Dev nD) : Vec Ideal S8x2048x3072 .bf16 :=
  out scaleR invR clipR (m ((c : Thread nD τ).loc main_arg0)) (m ((c : Thread nD τ).loc main_arg1)) (m ((c : Thread nD τ).loc main_arg2))
    (m ((c : Thread nD τ).loc main_arg3)) (m ((c : Thread nD τ).loc main_arg4))
def codesR (c : Dev nD) : Vec Ideal S8x2048x6144 .fp8e4m3 := codes invR clipR (m ((c : Thread nD τ).loc main_arg0))
def scalesR (c : Dev nD) : Vec Ideal S8x1x2048 .f32 := scales scaleR (m ((c : Thread nD τ).loc main_arg0))

theorem out_final (c : Dev nD) : (dats (F := Ideal) m 0 c).arrAt 6 cfg0.N = outR m c := by
  rw [final6]
  funext y
  obtain ⟨b, p, n, rfl⟩ : ∃ (b : Fin 8) (p : Fin 2048) (n : Fin 3072), y = ix3 b p n := ⟨y 0, y 1, y 2, eq_ix3 y⟩
  rw [pay2_apply]
  simp only [clipVec_apply, scaleVec_apply]
  rfl

theorem codes_final (c : Dev nD) : (dats (F := Ideal) m 0 c).arrAt 7 cfg0.N = codesR m c := by
  rw [final7]
  funext y
  obtain ⟨b, p, k, rfl⟩ : ∃ (b : Fin 8) (p : Fin 2048) (k : Fin 6144), y = ix3 b p k := ⟨y 0, y 1, y 2, eq_ix3 y⟩
  rw [pay1_apply, clipVec_apply]
  rfl

theorem scales_final (c : Dev nD) : V m c main_v30 = scalesR m c := by
  rw [row_entry]
  funext y
  obtain ⟨b, z, p, rfl⟩ : ∃ (b : Fin 8) (z : Fin 1) (p : Fin 2048), y = ix3 b z p := ⟨y 0, y 1, y 2, eq_ix3 y⟩
  refine (row_of _ b z p).trans ?_
  rw [scaleVec_apply]
  rfl

/-- The run: the three results, and the arguments as they were. -/
theorem run_value : θ_run (defs (F := Ideal)) (onTc (τ := τ) (main (F := Ideal))) ⟨m, fun _ => 0, ρ⟩ (fun r => ∀ c : Dev nD,
      r.2.mem ((c.tc : Thread nD τ).loc main_v31_0) = outR m c
      ∧ r.2.mem ((c.tc : Thread nD τ).loc main_v31_1) = codesR m c
      ∧ r.2.mem ((c.tc : Thread nD τ).loc main_v30) = scalesR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(post6 m r h c).trans (out_final m c), (post7 m r h c).trans (codes_final m c),
      ((h c).2 main_v30 (Pipeline.mem_restRefs_of main_v30 (by decide) (by decide))).trans (scales_final m c),
      kept_main_arg0 m r h c, kept_main_arg1 m r h c, kept_main_arg2 m r h c, kept_main_arg3 m r h c, kept_main_arg4 m r h c⟩)
    (run_main (F := Ideal) m ρ)

end Cert.ReferenceIdeal.Hand

end
-- ==== Proof.ExponentIdeal.lean ====
/- The scale of a token in the two programs. The kernel finds the exponent field of the scaled maximum by a binary search
   over powers of two and builds the scale and its reciprocal from their bits; the reference takes a logarithm, rounds it
   down and raises two to it. On extended reals the two agree whenever the maximum is at most the largest finite bf16 value
   or infinite. -/
module

public import proofs.«01_k».proof.Proof.ArrayIdeal
public import proofs.«01_k».proof.Proof.RefValue

@[expose] public section

noncomputable section

namespace Cert.Spec

open Idealize.ShloMosaic Idealize.ShloMosaic.Pointwise Cert.KernelIdeal Cert.KernelIdeal.Hand
open Cert.ReferenceIdeal.Hand (ratioS exponentS pow2S negS scaleR invR clipR exponentV colC)

/-! ## The kernel's scalar functions -/

/-- One step of the search. -/
def probeS (r : EReal) (f s : BitVec 32) : BitVec 32 :=
  if Ideal.ofBits .f32 ((f + s) <<< (23 : ℕ)) ≤ r then f + s else f

theorem or_bit (p q : Bool) : (BitVec.ofBool p ||| BitVec.ofBool q = 1#1) ↔ (p = true ∨ q = true) := by
  cases p <;> cases q <;> decide

theorem shl23 (x : BitVec 32) : IntOp.shli ArithUnit.vector x 23#32 = x <<< (23 : ℕ) := rfl

theorem probe_apply (r : Vec Ideal S8x128 .f32) (f : IVec S8x128 32) (s : BitVec 32) (a : Fin 8) (l : Fin 128) :
    probe (F := Ideal) r f s (ix2 a l) = probeS (r (ix2 a l)) (f (ix2 a l)) s := by
  unfold probe probeS
  pointwise
  rfl

/-- The exponent of the scale, of the maximum and of the field found. -/
def expoF (a : EReal) (f : BitVec 32) : BitVec 32 := if a = 0 then 0#32 else if f = 0#32 ∨ f = 255#32 then 0#32 else f - 126#32

theorem expoOf_apply (a : Vec Ideal S8x128 .f32) (f : IVec S8x128 32) (b : Fin 8) (l : Fin 128) :
    expoOf (F := Ideal) a f (ix2 b l) = expoF (a (ix2 b l)) (f (ix2 b l)) := by
  unfold expoOf expoF
  pointwise
  congr 1
  generalize f (ix2 b l) = g
  exact if_congr ((or_bit _ _).trans (by simp)) rfl rfl

/-- The field found by the search. -/
def fieldS (r : EReal) : BitVec 32 :=
  probeS r (probeS r (probeS r (probeS r (probeS r (probeS r (probeS r (probeS r 0#32 128#32) 64#32) 32#32) 16#32) 8#32) 4#32) 2#32) 1#32

theorem fieldV_apply (r : Vec Ideal S8x128 .f32) (a : Fin 8) (l : Fin 128) :
    fieldV (F := Ideal) r (ix2 a l) = fieldS (r (ix2 a l)) := by
  unfold fieldV fieldS
  simp only [probe_apply]
  rfl

theorem ratio_apply (a : Vec Ideal S8x128 .f32) (b : Fin 8) (l : Fin 128) :
    mulf (F := Ideal) a (broadcast S8x128 (Scalar.ofBits .f32 0x3B124925#32)) (ix2 b l) = ratioS (a (ix2 b l)) := by
  unfold ratioS
  pointwise

theorem expoS_eq (a : EReal) : expoS (F := Ideal) a = expoF a (fieldS (ratioS a)) := by
  unfold expoS expoV
  rw [expoOf_apply, fieldV_apply, ratio_apply]

theorem scaleS_eq (e : BitVec 32) : scaleS (F := Ideal) e = Ideal.ofBits .f32 ((e + 127#32) <<< (23 : ℕ)) := by
  unfold scaleS scaleV
  pointwise
  rfl

theorem invS_eq (e : BitVec 32) : invS (F := Ideal) e = Ideal.ofBits .f32 ((127#32 - e) <<< (23 : ℕ)) := by
  unfold invS invV
  pointwise
  rfl

theorem clipK_eq (h v : EReal) : clipK h v = clipR h v := by
  unfold clipK clipR clipS clipped
  pointwise

/-! ## The reference's scalar functions -/

theorem two_val : Ideal.ofBits .f32 0x40000000#32 = ((2 : ℝ) : EReal) := by
  simp [Ideal.ofBits, Ideal.ieee, -EReal.coe_mul]
  norm_num

theorem inf_val : Ideal.ofBits .f32 0x7F800000#32 = ⊤ := by
  simp [Ideal.ofBits, Ideal.ieee]

theorem exponentS_eq (r : EReal) : exponentS (F := Ideal) r = if r < Ideal.ofBits .f32 0x00800000#32 ∨ r = ⊤ then 0
     else Ideal.liftRound Int.floor (Ideal.div (Ideal.log r) (Ideal.log ((2 : ℝ) : EReal))) + 1 := by
  rw [← two_val, ← inf_val]
  unfold exponentS exponentV colC
  pointwise
  exact if_congr ((or_bit _ _).trans (by simp)) rfl rfl

theorem pow2S_eq (r : EReal) : pow2S (F := Ideal) r = Ideal.pow ((2 : ℝ) : EReal) r := by
  rw [← two_val]
  unfold pow2S colC
  pointwise

theorem negS_eq (r : EReal) : negS (F := Ideal) r = -r := by
  unfold negS
  pointwise

/-! ## Powers of two by their exponent field -/

/-- The value whose exponent field is `n` and whose fraction is zero. -/
def pw (n : ℕ) : EReal := Ideal.ofBits .f32 (BitVec.ofNat 32 n <<< (23 : ℕ))

theorem fields : ∀ n : Fin 256, ((BitVec.ofNat 32 n.val <<< (23 : ℕ)).extractLsb' 23 8).toNat = n.val
    ∧ ((BitVec.ofNat 32 n.val <<< (23 : ℕ)).extractLsb' 0 23).toNat = 0
    ∧ ((BitVec.ofNat 32 n.val <<< (23 : ℕ)).extractLsb' 31 1 == 1#1) = false := by decide +kernel

theorem pw_val (n : ℕ) (h1 : 1 ≤ n) (h2 : n ≤ 254) : pw n = (((2 : ℝ) ^ ((n : ℤ) - 127) : ℝ) : EReal) := by
  obtain ⟨e, f, g⟩ := fields ⟨n, by omega⟩
  dsimp only at e f g
  unfold pw
  generalize BitVec.ofNat 32 n <<< (23 : ℕ) = b at e f g
  simp only [Ideal.ofBits, Ideal.ieee, Nat.reduceAdd, e, f, g]
  rw [if_neg (by norm_num; omega), if_neg (by omega)]
  congr 1
  have h : (2 : ℝ) ^ ((n : ℤ) - 127) = 2 ^ (23 : ℤ) * (2 : ℝ) ^ ((n : ℤ) - 127 - 23) := by
    rw [← zpow_add₀ (by norm_num)]; congr 1; ring
  rw [h]
  norm_num

theorem pw_top : pw 255 = ⊤ := by
  simp [pw, Ideal.ofBits, Ideal.ieee]

theorem pw_mono (i j : ℕ) (h1 : 1 ≤ i) (h : i ≤ j) (h2 : j ≤ 255) : pw i ≤ pw j := by
  rcases Nat.lt_or_ge j 255 with hj | hj
  · rw [pw_val i h1 (by omega), pw_val j (by omega) (by omega)]
    exact EReal.coe_le_coe_iff.2 (zpow_le_zpow_right₀ (by norm_num) (by omega))
  · obtain rfl : j = 255 := by omega
    rw [pw_top]; exact le_top

/-! ## The search -/

section
variable (r : EReal)

open Classical in
def stepN (n s : ℕ) : ℕ := if pw (n + s) ≤ r then n + s else n

def fieldN : ℕ := stepN r (stepN r (stepN r (stepN r (stepN r (stepN r (stepN r (stepN r 0 128) 64) 32) 16) 8) 4) 2) 1

theorem probeS_ofNat (n s : ℕ) : probeS r (BitVec.ofNat 32 n) (BitVec.ofNat 32 s) = BitVec.ofNat 32 (stepN r n s) := by
  unfold probeS stepN pw
  rw [← BitVec.ofNat_add]
  split_ifs <;> rfl

theorem fieldS_eq : fieldS r = BitVec.ofNat 32 (fieldN r) := by
  unfold fieldS fieldN
  simp only [probeS_ofNat]

/-- What the search keeps: the value at `n` is reached, the values from `n + s` on are not. -/
def Kept (n s : ℕ) : Prop := (n = 0 ∨ pw n ≤ r) ∧ (∀ j, n + s ≤ j → j ≤ 255 → ¬ pw j ≤ r) ∧ n + s ≤ 256

theorem kept_step (n s : ℕ) (hs : 1 ≤ s) (h : Kept r n (2 * s)) : Kept r (stepN r n s) s := by
  obtain ⟨h0, h1, h2⟩ := h
  unfold stepN
  split_ifs with hp
  · exact ⟨.inr hp, fun j hj => h1 j (by omega), by omega⟩
  · exact ⟨h0, fun j hj hj' hle => hp ((pw_mono (n + s) j (by omega) hj hj').trans hle), by omega⟩

theorem kept_field : Kept r (fieldN r) 1 := by
  have h0 : Kept r 0 (2 * 128) := ⟨.inl rfl, fun j hj hj' => by omega, by omega⟩
  have h1 : Kept r _ (2 * 64) := kept_step r _ 128 (by omega) h0
  have h2 : Kept r _ (2 * 32) := kept_step r _ 64 (by omega) h1
  have h3 : Kept r _ (2 * 16) := kept_step r _ 32 (by omega) h2
  have h4 : Kept r _ (2 * 8) := kept_step r _ 16 (by omega) h3
  have h5 : Kept r _ (2 * 4) := kept_step r _ 8 (by omega) h4
  have h6 : Kept r _ (2 * 2) := kept_step r _ 4 (by omega) h5
  have h7 : Kept r _ (2 * 1) := kept_step r _ 2 (by omega) h6
  exact kept_step r _ 1 (by omega) h7
end

/-! ## The exponent -/

theorem ratio_c : Ideal.ofBits .f32 0x3B124925#32 = ((9586981 * (2 : ℝ) ^ (-32 : ℤ) : ℝ) : EReal) := by
  simp [Ideal.ofBits, Ideal.ieee, -EReal.coe_mul]

/-- The largest finite bf16 value. -/
theorem bf16_max : Ideal.ofBits .bf16 0x7F7F#16 = ((255 * (2 : ℝ) ^ (120 : ℤ) : ℝ) : EReal) := by
  simp [Ideal.ofBits, Ideal.ieee, -EReal.coe_mul]

theorem min_normal : Ideal.ofBits .f32 0x00800000#32 = pw 1 := rfl

theorem one_val : pw 127 = 1 := by rw [pw_val 127 (by omega) (by omega)]; norm_num

/-- Both programs at exponent zero. -/
theorem zero_case (a : EReal) (hk : expoS (F := Ideal) a = 0#32) (hr : exponentS (F := Ideal) (ratioS a) = 0) :
    scaleK a = scaleR a ∧ invK a = invR a := by
  unfold scaleK invK scaleR invR
  rw [hk, hr, scaleS_eq, invS_eq, pow2S_eq, pow2S_eq, negS_eq]
  have h1 : Ideal.ofBits .f32 ((0#32 + 127#32) <<< (23 : ℕ)) = 1 := one_val
  have h2 : Ideal.ofBits .f32 ((127#32 - 0#32) <<< (23 : ℕ)) = 1 := one_val
  have h3 : Ideal.pow ((2 : ℝ) : EReal) 0 = 1 := by
    show ((Real.rpow 2 0 : ℝ) : EReal) = 1
    simp
  rw [h1, h2, neg_zero, h3]
  exact ⟨rfl, rfl⟩

theorem pow_int (z : ℤ) : Ideal.pow ((2 : ℝ) : EReal) (((z : ℝ)) : EReal) = (((2 : ℝ) ^ z : ℝ) : EReal) := by
  show ((Real.rpow 2 (z : ℝ) : ℝ) : EReal) = _
  congr 1
  exact Real.rpow_intCast 2 z

/-- Both programs at a field between 1 and 252. -/
theorem field_case (a : EReal) (n : ℕ) (h1 : 1 ≤ n) (h2 : n ≤ 252) (hk : expoS (F := Ideal) a = BitVec.ofNat 32 n - 126#32)
    (hr : exponentS (F := Ideal) (ratioS a) = ((((n : ℤ) - 126 : ℤ) : ℝ) : EReal)) :
    scaleK a = scaleR a ∧ invK a = invR a := by
  unfold scaleK invK scaleR invR
  rw [hk, hr, scaleS_eq, invS_eq, pow2S_eq, pow2S_eq, negS_eq]
  have e1 : BitVec.ofNat 32 n - 126#32 + 127#32 = BitVec.ofNat 32 (n + 1) := by
    apply BitVec.eq_of_toNat_eq
    simp only [BitVec.toNat_sub, BitVec.toNat_add, BitVec.toNat_ofNat]
    omega
  have e2 : 127#32 - (BitVec.ofNat 32 n - 126#32) = BitVec.ofNat 32 (253 - n) := by
    apply BitVec.eq_of_toNat_eq
    simp only [BitVec.toNat_sub, BitVec.toNat_ofNat]
    omega
  rw [e1, e2]
  have p1 := pw_val (n + 1) (by omega) (by omega)
  have p2 := pw_val (253 - n) (by omega) (by omega)
  unfold pw at p1 p2
  rw [p1, p2, pow_int, show -((((n : ℤ) - 126 : ℤ) : ℝ) : EReal) = ((((126 - (n : ℤ) : ℤ)) : ℝ) : EReal) by
    rw [← EReal.coe_neg]; congr 1; push_cast; ring, pow_int]
  refine ⟨?_, ?_⟩
  · congr 2; push_cast; ring
  · congr 2; rw [Nat.cast_sub (by omega)]; push_cast; ring

theorem ratio_real (x : ℝ) : ratioS (x : EReal) = ((x * (9586981 * (2 : ℝ) ^ (-32 : ℤ)) : ℝ) : EReal) := by
  unfold ratioS
  rw [ratio_c, ← EReal.coe_mul]

theorem scale_eq (a : EReal) (h0 : 0 ≤ a) (h : a ≤ Ideal.ofBits .bf16 0x7F7F#16 ∨ a = ⊤) :
    scaleK a = scaleR a ∧ invK a = invR a := by
  have hkept := kept_field (ratioS a)
  have hk := expoS_eq a
  rw [fieldS_eq] at hk
  generalize hN : fieldN (ratioS a) = N at hkept hk
  obtain ⟨q0, q1, q2⟩ := hkept
  have hNb : N ≤ 255 := by omega
  have hNz : BitVec.ofNat 32 N = 0#32 ↔ N = 0 := by
    constructor
    · intro h
      have := congrArg BitVec.toNat h
      simp only [BitVec.toNat_ofNat] at this
      omega
    · rintro rfl; rfl
  have hNt : BitVec.ofNat 32 N = 255#32 ↔ N = 255 := by
    constructor
    · intro h
      have := congrArg BitVec.toNat h
      simp only [BitVec.toNat_ofNat] at this
      omega
    · rintro rfl; rfl
  have hr := exponentS_eq (ratioS a)
  rw [min_normal] at hr
  unfold expoF at hk
  simp only [hNz, hNt] at hk
  induction a using EReal.rec with
  | bot => exact absurd h0 (by simp)
  | top =>
    have ht : ratioS ⊤ = ⊤ := by
      unfold ratioS
      rw [ratio_c]
      exact EReal.top_mul_coe_of_pos (by positivity)
    rw [ht] at q1 hr
    have hN255 : N = 255 := by
      by_contra hne
      exact q1 (N + 1) le_rfl (by omega) le_top
    refine zero_case ⊤ ?_ ?_
    · rw [hk, if_neg (by simp), if_pos (.inr hN255)]
    · rw [ht, hr, if_pos (.inr rfl)]
  | coe x =>
    have hx0 : 0 ≤ x := EReal.coe_nonneg.1 h0
    have hxb : x ≤ 255 * (2 : ℝ) ^ (120 : ℤ) := by
      rcases h with h | h
      · rw [bf16_max] at h; exact EReal.coe_le_coe_iff.1 h
      · exact absurd h (EReal.coe_ne_top x)
    have hrr := ratio_real x
    rw [hrr] at q0 q1 hr
    generalize hy : x * (9586981 * (2 : ℝ) ^ (-32 : ℤ)) = y at q0 q1 hr hrr
    have hyb : y < (2 : ℝ) ^ (120 : ℤ) := by
      rw [← hy]
      refine lt_of_le_of_lt (mul_le_mul_of_nonneg_right hxb (by positivity)) ?_
      norm_num
    have hN254 : N ≤ 254 := by
      by_contra hne
      obtain rfl : N = 255 := by omega
      rcases q0 with q0 | q0
      · omega
      · rw [pw_top] at q0
        exact absurd (top_le_iff.1 q0) (EReal.coe_ne_top y)
    by_cases hlt : (y : EReal) < pw 1
    · have hN0 : N = 0 := by
        rcases q0 with q0 | q0
        · exact q0
        · by_contra hne
          exact absurd (lt_of_le_of_lt ((pw_mono 1 N le_rfl (by omega) (by omega)).trans q0) hlt) (lt_irrefl _)
      refine zero_case x ?_ ?_
      · rw [hk]
        split_ifs with h1 h2
        · rfl
        · rfl
        · exact absurd (.inl hN0) h2
      · rw [hrr, hr, if_pos (.inl hlt)]
    · have hN1 : 1 ≤ N := by
        by_contra hne
        obtain rfl : N = 0 := by omega
        exact q1 1 (by omega) (by omega) (not_lt.1 hlt)
      have hlo : (2 : ℝ) ^ ((N : ℤ) - 127) ≤ y := by
        rcases q0 with q0 | q0
        · omega
        · rw [pw_val N hN1 hN254] at q0; exact EReal.coe_le_coe_iff.1 q0
      have hN246 : N ≤ 246 := by
        by_contra hne
        have : (2 : ℝ) ^ (120 : ℤ) ≤ (2 : ℝ) ^ ((N : ℤ) - 127) := zpow_le_zpow_right₀ (by norm_num) (by omega)
        linarith
      have hhi : y < (2 : ℝ) ^ ((N : ℤ) - 126) := by
        have h := q1 (N + 1) le_rfl (by omega)
        rw [pw_val (N + 1) (by omega) (by omega), EReal.coe_le_coe_iff, not_le] at h
        refine lt_of_lt_of_eq h ?_
        congr 1; push_cast; ring
      have hy0 : 0 < y := lt_of_lt_of_le (by positivity) hlo
      have hx : x ≠ 0 := by
        rintro rfl
        rw [zero_mul] at hy
        exact absurd hy0 (by rw [← hy]; exact lt_irrefl _)
      refine field_case x N hN1 (by omega) ?_ ?_
      · rw [hk, if_neg (by exact_mod_cast hx), if_neg (by omega)]
      · have hl2 : (0 : ℝ) < Real.log 2 := Real.log_pos (by norm_num)
        have hlog : Ideal.log (y : EReal) = ((Real.log y : ℝ) : EReal) := by
          show (if y ≤ 0 then ⊥ else (Real.log y : EReal)) = _
          rw [if_neg (not_le.2 hy0)]
        have hlog2 : Ideal.log ((2 : ℝ) : EReal) = ((Real.log 2 : ℝ) : EReal) := by
          show (if (2 : ℝ) ≤ 0 then ⊥ else (Real.log 2 : EReal)) = _
          rw [if_neg (by norm_num)]
        have hdiv : Ideal.div ((Real.log y : ℝ) : EReal) ((Real.log 2 : ℝ) : EReal) = ((Real.log y / Real.log 2 : ℝ) : EReal) := by
          unfold Ideal.div
          rw [if_neg (by exact_mod_cast hl2.ne'), ← EReal.coe_inv, ← EReal.coe_mul, div_eq_mul_inv]
        have hfl : ⌊Real.log y / Real.log 2⌋ = (N : ℤ) - 127 := by
          rw [Int.floor_eq_iff]
          constructor
          · rw [le_div_iff₀ hl2, ← Real.log_zpow]
            exact Real.log_le_log (by positivity) hlo
          · rw [div_lt_iff₀ hl2]
            have := Real.log_lt_log hy0 hhi
            rw [Real.log_zpow] at this
            refine lt_of_lt_of_eq this ?_
            push_cast; ring
        rw [hrr, hr, if_neg (by
          rintro (h | h)
          · exact hlt h
          · exact EReal.coe_ne_top y h), hlog, hlog2, hdiv]
        show (((⌊Real.log y / Real.log 2⌋ : ℤ) : ℝ) : EReal) + 1 = _
        rw [hfl, ← EReal.coe_one, ← EReal.coe_add]
        congr 1; push_cast; ring

end Cert.Spec

end
-- ==== Proof.AlgebraicIdeal.lean ====
/- The two programs' results are equal on extended reals: the precondition bounds every token's largest absolute value, and
   under that bound the two ways of finding the scale agree. -/
module

public import proofs.«01_k».proof.Defs
public import proofs.«01_k».proof.Proof.Gen.Pre_bf16_range
public import proofs.«01_k».proof.Proof.ExponentIdeal
public import Idealize.ShloMosaic.Lib.ReduceAll

@[expose] public section

noncomputable section

namespace Cert.Spec

open Idealize.ShloMosaic Idealize.ShloMosaic.Pointwise Idealize.SL.Sem Cert.KernelIdeal.Hand Cert.ReferenceIdeal.Hand

/-- What the precondition says of one element: at most the largest finite bf16 value, or infinite. -/
def Bounded (a : EReal) : Prop := a ≤ Ideal.ofBits .bf16 0x7F7F#16 ∨ a = ⊤

theorem inf16_val : Ideal.ofBits .bf16 0x7F80#16 = ⊤ := by
  simp [Ideal.ofBits, Ideal.ieee]

/-- The precondition, at every element. -/
theorem bounded_of (x : Vec Ideal Cert.Pre_bf16_range.S8x8x1572864 .bf16) (w : Vec Ideal Cert.Pre_bf16_range.S6144x3072 .fp8e4m3)
    (ws bias : Vec Ideal Cert.Pre_bf16_range.S3072 .f32) (pos : Vec Ideal Cert.Pre_bf16_range.S2048x3072 .bf16)
    (h : Cert.Pre_bf16_range.fn (F := Ideal) x w ws bias pos = fun _ => 1#1) (i : Cert.Pre_bf16_range.S8x8x1572864.Idx) :
    Bounded (absE (x i)) := by
  have h1 := Host.reduce_andi_all _ _ _ _ ix0 (congrFun h ix0) i
  have h2 := (or_bit (decide (absE (x i) ≤ Ideal.ofBits .bf16 0x7F7F#16)) (decide (absE (x i) = Ideal.ofBits .bf16 0x7F80#16))).1 h1
  rw [inf16_val] at h2
  simpa [Bounded] using h2

theorem absE_nonneg (a : EReal) : 0 ≤ absE a := by
  unfold absE
  rcases le_total 0 a with h | h
  · exact le_max_of_le_left h
  · exact le_max_of_le_right (EReal.neg_nonneg.2 h)

/-- A token's largest absolute value is not negative. -/
theorem amax_nonneg (x : Vec Ideal Cert.KernelIdeal.S8x8x1572864 .bf16) (b : Fin 8) (p : Fin 2048) : 0 ≤ amax x b p :=
  (absE_nonneg (token x b p ⟨0, by omega⟩)).trans (Finset.le_sup (f := fun k : Fin 6144 => absE (token x b p k)) (Finset.mem_univ _))

/-- A bound on every element bounds the largest. -/
theorem amax_bounded (x : Vec Ideal Cert.KernelIdeal.S8x8x1572864 .bf16) (h : ∀ i, Bounded (absE (x i))) (b : Fin 8) (p : Fin 2048) :
    Bounded (amax x b p) := by
  by_cases ht : ∃ k : Fin 6144, absE (token x b p k) = ⊤
  · obtain ⟨k, hk⟩ := ht
    exact .inr (top_le_iff.1 (hk ▸ Finset.le_sup (f := fun k : Fin 6144 => absE (token x b p k)) (Finset.mem_univ k)))
  · refine .inl (Finset.sup_le fun k _ => ?_)
    rcases h (ix3 b (⟨k.val / 768, by omega⟩ : Fin 8) (⟨p.val * 768 + k.val % 768, by omega⟩ : Fin 1572864)) with h | h
    · exact h
    · exact absurd ⟨k, h⟩ ht

section
variable (x : Vec Ideal Cert.KernelIdeal.S8x8x1572864 .bf16) (w : Vec Ideal Cert.KernelIdeal.S6144x3072 .fp8e4m3)
  (ws bias : Vec Ideal Cert.KernelIdeal.S3072 .f32) (pos : Vec Ideal Cert.KernelIdeal.S2048x3072 .bf16) (h : ∀ i, Bounded (absE (x i)))
include h

theorem scale_amax (b : Fin 8) (p : Fin 2048) : scaleK (amax x b p) = scaleR (amax x b p) :=
  (scale_eq _ (amax_nonneg x b p) (amax_bounded x h b p)).1

theorem inv_amax (b : Fin 8) (p : Fin 2048) : invK (amax x b p) = invR (amax x b p) :=
  (scale_eq _ (amax_nonneg x b p) (amax_bounded x h b p)).2

theorem codes_eq : codes invK clipK x = codes invR clipR x := by
  funext y
  exact (clipK_eq _ _).trans (congrArg (clipR (token x (y 0) (y 1) (y 2))) (inv_amax x h (y 0) (y 1)))

theorem scales_eq : scales scaleK x = scales scaleR x := by
  funext y
  exact scale_amax x h (y 0) (y 2)

theorem out_eq : out scaleK invK clipK x w ws bias pos = out scaleR invR clipR x w ws bias pos := by
  funext y
  unfold out
  rw [codes_eq x h, scale_amax x h (y 0) (y 1)]
end

theorem out_args (scale inv : EReal → EReal) (clip : EReal → EReal → EReal) {x x' : Vec Ideal Cert.KernelIdeal.S8x8x1572864 .bf16}
    {w w' : Vec Ideal Cert.KernelIdeal.S6144x3072 .fp8e4m3} {ws ws' bias bias' : Vec Ideal Cert.KernelIdeal.S3072 .f32}
    {pos pos' : Vec Ideal Cert.KernelIdeal.S2048x3072 .bf16} (h0 : x' = x) (h1 : w' = w) (h2 : ws' = ws) (h3 : bias' = bias) (h4 : pos' = pos) :
    out scale inv clip x' w' ws' bias' pos' = out scale inv clip x w ws bias pos := by
  subst h0 h1 h2 h3 h4
  rfl

theorem algebraic [hPre : Cert.Pre_bf16_range.Facts] : Cert.algebraic_KernelIdeal_ReferenceIdeal_pre_bf16_range
    (hKernelIdeal := Cert.KernelIdeal.Gen.facts) (hReferenceIdeal := Cert.ReferenceIdeal.Gen.facts) := by
  intro m g m' g' pre same
  have bnd : ∀ (c : Dev Cert.KernelIdeal.nD) i, Bounded (absE ((m ((c.tc : Thread Cert.KernelIdeal.nD Cert.KernelIdeal.τ).loc Cert.KernelIdeal.main_arg0) : Vec Ideal Cert.KernelIdeal.S8x8x1572864 .bf16) i)) :=
    fun c i => bounded_of _ _ _ _ _ (pre c) i
  refine ⟨outK m, codesK m, scalesK m, ?_, ?_⟩
  · exact (θ_run Cert.KernelIdeal.defs _ _).mono (fun _ h c => ⟨(h.1 c).1, (h.1 c).2.1, (h.1 c).2.2, h.2 c⟩)
      (θ_run_and (Cert.KernelIdeal.Hand.run_value m g) (Cert.KernelIdeal.Hand.unchanged m g))
  · refine (θ_run Cert.ReferenceIdeal.defs _ _).mono (fun _ h c => ?_) (Cert.ReferenceIdeal.Hand.run_value m' g')
    obtain ⟨h0, h1, h2, hargs⟩ := h c
    obtain ⟨a0, a1, a2, a3, a4⟩ := same c
    exact ⟨h0.trans ((out_args scaleR invR clipR a0 a1 a2 a3 a4).trans (out_eq _ _ _ _ _ (bnd c)).symm),
      h1.trans ((congrArg (codes invR clipR) a0).trans (codes_eq _ (bnd c)).symm),
      h2.trans ((congrArg (scales scaleR) a0).trans (scales_eq _ (bnd c)).symm), hargs⟩

end Cert.Spec

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_bf16_range
public import proofs.«01_k».proof.Proof.Frame
public import proofs.«01_k».proof.Proof.FrameIdeal
public import proofs.«01_k».proof.Proof.AlgebraicIdeal
public import Idealize.ShloMosaic.Lib.Bf16Pair
public import Idealize.ShloMosaic.Adequacy
public import Idealize.ShloMosaic.Init

@[expose] public section

noncomputable section

namespace Cert.Proof

open Idealize.ShloMosaic Idealize.SL.Sem

/-- The rewrites between the two printings: the two halves of a word against the two rows of the pair, at the two
    shapes they occur at. -/
theorem preserves : Cert.preserves_Kernel_KernelIdeal :=
  ⟨IdealRules.bf16_pair.statement _ _, IdealRules.bf16_pair.statement _ _⟩

theorem claim : Cert.Claim :=
  ⟨Cert.Kernel.Gen.facts, Cert.KernelIdeal.Gen.facts, Cert.ReferenceIdeal.Gen.facts, Cert.Pre_bf16_range.Gen.facts,
    fun m g _ => Cert.Kernel.Hand.frame m g,
    fun m g _ => Cert.KernelIdeal.Hand.frame m g,
    fun m g _ => Cert.KernelIdeal.Hand.frame m g,
    fun m g _ => Cert.ReferenceIdeal.Gen.frame m g,
    fun m g _ => Cert.ReferenceIdeal.Gen.frame m g,
    preserves, Cert.Spec.algebraic (hPre := Cert.Pre_bf16_range.Gen.facts)⟩

end Cert.Proof

end
